-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v452) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S2048x1x1024 : Shape := ⟨3, ![2048, 1, 1024]⟩
abbrev S1024x8 : Shape := ⟨2, ![1024, 8]⟩
abbrev S8x1024x704 : Shape := ⟨3, ![8, 1024, 704]⟩
abbrev S8x704x1024 : Shape := ⟨3, ![8, 704, 1024]⟩
abbrev S_ : Shape := ⟨0, ![]⟩

class Facts : Prop where
  bcast_S_S2048x1x1024 : S_.BroadcastsInDim S2048x1x1024 (![] : Fin 0 → Fin S2048x1x1024.rank)
  bcast_S_S1024x8 : S_.BroadcastsInDim S1024x8 (![] : Fin 0 → Fin S1024x8.rank)

variable [Facts]

def fn {F : FTy → Type} [FloatOps F] (main_arg0 : FVec F S2048x1x1024 .f32) (main_arg1 : FVec F S1024x8 .f32) (main_arg2 : FVec F S8x1024x704 .f32) (main_arg3 : FVec F S8x1024x704 .f32) (main_arg4 : FVec F S8x704x1024 .f32) : IVec S2048x1x1024 1 × IVec S1024x8 1 :=
  let main_v0 : FVec F S2048x1x1024 .f32 := Host.absf main_arg0
  let main_cst : FVec F S_ .f32 := constant S_ .f32 0x7F800000#32
  let main_v1 : FVec F S2048x1x1024 .f32 := broadcastInDim S2048x1x1024 ![] bcast_S_S2048x1x1024 main_cst
  let main_v2 : IVec S2048x1x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S2048x1x1024 : Shape := ⟨3, ![2048, 1, 1024]⟩
abbrev S1024x8 : Shape := ⟨2, ![1024, 8]⟩
abbrev S8x1024x704 : Shape := ⟨3, ![8, 1024, 704]⟩
abbrev S8x704x1024 : Shape := ⟨3, ![8, 704, 1024]⟩
abbrev S2048x8 : Shape := ⟨2, ![2048, 8]⟩
abbrev S2048x1024 : Shape := ⟨2, ![2048, 1024]⟩
abbrev S2048 : Shape := ⟨1, ![2048]⟩
abbrev S2048x1 : Shape := ⟨2, ![2048, 1]⟩
abbrev S256x256 : Shape := ⟨2, ![256, 256]⟩
abbrev S1x8 : Shape := ⟨2, ![1, 8]⟩
abbrev S256x8 : Shape := ⟨2, ![256, 8]⟩
abbrev S8 : Shape := ⟨1, ![8]⟩
abbrev S1x1024x704 : Shape := ⟨3, ![1, 1024, 704]⟩
abbrev S1x704x1024 : Shape := ⟨3, ![1, 704, 1024]⟩
abbrev S512x1x1024 : Shape := ⟨3, ![512, 1, 1024]⟩
abbrev S512x1024 : Shape := ⟨2, ![512, 1024]⟩
abbrev S1024x704 : Shape := ⟨2, ![1024, 704]⟩
abbrev S512x704 : Shape := ⟨2, ![512, 704]⟩
abbrev S512x8 : Shape := ⟨2, ![512, 8]⟩
abbrev S512 : Shape := ⟨1, ![512]⟩
abbrev S512x1 : Shape := ⟨2, ![512, 1]⟩
abbrev S704x1024 : Shape := ⟨2, ![704, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1x1024, .f32⟩
  | .hbm, ⟨1, _⟩ => ⟨S1024x8, .f32⟩
  | .hbm, ⟨2, _⟩ => ⟨S8x1024x704, .f32⟩
  | .hbm, ⟨3, _⟩ => ⟨S8x1024x704, .f32⟩
  | .hbm, ⟨4, _⟩ => ⟨S8x704x1024, .f32⟩
  | .hbm, ⟨5, _⟩ => ⟨S2048x8, .f32⟩
  | .hbm, ⟨6, _⟩ => ⟨S2048x1x1024, .f32⟩
  | .local _ .vmem, ⟨0, _⟩ => ⟨S2048x1x1024, .f32⟩
  | .local _ .vmem, ⟨1, _⟩ => ⟨S1024x8, .f32⟩
  | .local _ .vmem, ⟨2, _⟩ => ⟨S2048x8, .f32⟩
  | .local _ .vmem, ⟨3, _⟩ => ⟨S2048x1x1024, .f32⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x704x1024, .f32⟩
  | .local _ .vmem, ⟨9, _⟩ => ⟨S1x704x1024, .f32⟩
  | .local _ .vmem, ⟨10, _⟩ => ⟨S2048x8, .f32⟩
  | .local _ .vmem, ⟨11, _⟩ => ⟨S2048x1x1024, .f32⟩
  | _, _ => ⟨S2048x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_19 : BitVec 32 := 0#32
  let v31 : BitVec 1 := Scalar.cmpi .ne v30 c0_i32_19
  v31

def k1_cond2 (i : grid1.Coords) : BitVec 1 :=
  let arg0 : BitVec 32 := BitVec.ofNat 32 (i 0).val
  let c0_i32_20 : BitVec 32 := 0#32
  let v32 : BitVec 1 := Scalar.cmpi .ne arg0 c0_i32_20
  let v33 : BitVec 32 := Scalar.extui v32
  let c0_i32_21 : BitVec 32 := 0#32
  let v34 : BitVec 1 := Scalar.cmpi .ne v33 c0_i32_21
  v34

def k1_cond3 (i : grid1.Coords) : BitVec 1 :=
  let arg0 : BitVec 32 := BitVec.ofNat 32 (i 0).val
  let c0_i32_42 : BitVec 32 := 0#32
  let v64 : BitVec 1 := Scalar.cmpi .eq arg0 c0_i32_42
  let v65 : BitVec 32 := Scalar.extui v64
  let c0_i32_43 : BitVec 32 := 0#32
  let v66 : BitVec 1 := Scalar.cmpi .ne v65 c0_i32_43
  v66

def k1_cond4 (i : grid1.Coords) : BitVec 1 :=
  let arg0 : BitVec 32 := BitVec.ofNat 32 (i 0).val
  let c0_i32_44 : BitVec 32 := 0#32
  let v67 : BitVec 1 := Scalar.cmpi .ne arg0 c0_i32_44
  let v68 : BitVec 32 := Scalar.extui v67
  let c0_i32_45 : BitVec 32 := 0#32
  let v69 : BitVec 1 := Scalar.cmpi .ne v68 c0_i32_45
  v69

def k1_cond5 (i : grid1.Coords) : BitVec 1 :=
  let arg0 : BitVec 32 := BitVec.ofNat 32 (i 0).val
  let c0_i32_66 : BitVec 32 := 0#32
  let v99 : BitVec 1 := Scalar.cmpi .eq arg0 c0_i32_66
  let v100 : BitVec 32 := Scalar.extui v99
  let c0_i32_67 : BitVec 32 := 0#32
  let v101 : BitVec 1 := Scalar.cmpi .ne v100 c0_i32_67
  v101

def k1_cond6 (i : grid1.Coords) : BitVec 1 :=
  let arg0 : BitVec 32 := BitVec.ofNat 32 (i 0).val
  let c0_i32_68 : BitVec 32 := 0#32
  let v102 : BitVec 1 := Scalar.cmpi .ne arg0 c0_i32_68
  let v103 : BitVec 32 := Scalar.extui v102
  let c0_i32_69 : BitVec 32 := 0#32
  let v104 : BitVec 1 := Scalar.cmpi .ne v103 c0_i32_69
  v104

def k1_cond7 (i : grid1.Coords) : BitVec 1 :=
  let arg0 : BitVec 32 := BitVec.ofNat 32 (i 0).val
  let c0_i32_90 : BitVec 32 := 0#32
  let v134 : BitVec 1 := Scalar.cmpi .eq arg0 c0_i32_90
  let v135 : BitVec 32 := Scalar.extui v134
  let c0_i32_91 : BitVec 32 := 0#32
  let v136 : BitVec 1 := Scalar.cmpi .ne v135 c0_i32_91
  v136

def k1_cond8 (i : grid1.Coords) : BitVec 1 :=
  let arg0 : BitVec 32 := BitVec.ofNat 32 (i 0).val
  let c0_i32_92 : BitVec 32 := 0#32
  let v137 : BitVec 1 := Scalar.cmpi .ne arg0 c0_i32_92
  let v138 : BitVec 32 := Scalar.extui v137
  let c0_i32_93 : BitVec 32 := 0#32
  let v139 : BitVec 1 := Scalar.cmpi .ne v138 c0_i32_93
  v139

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S2048x1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024x704 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x704x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S2048x1x1024 : Shape := ⟨3, ![2048, 1, 1024]⟩
abbrev S1024x8 : Shape := ⟨2, ![1024, 8]⟩
abbrev S8x1024x704 : Shape := ⟨3, ![8, 1024, 704]⟩
abbrev S8x704x1024 : Shape := ⟨3, ![8, 704, 1024]⟩
abbrev S1x2048x1024 : Shape := ⟨3, ![1, 2048, 1024]⟩
abbrev S2048x1024 : Shape := ⟨2, ![2048, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S1024 : Shape := ⟨1, ![1024]⟩
abbrev S1024x1 : Shape := ⟨2, ![1024, 1]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 665
  | .vmem => 0
  | .smem => 0
  | _ => 0

abbrev hbmTy0_0 (i : Nat) : BufTy := match i % 128 with
  | 0 => ⟨S2048x1x1024, .f32⟩
  | 1 => ⟨S1024x8, .f32⟩
  | 2 => ⟨S8x1024x704, .f32⟩
  | 3 => ⟨S8x1024x704, .f32⟩
  | 4 => ⟨S8x704x1024, .f32⟩
  | 5 => ⟨S1x2048x1024, .f32⟩
  | 6 => ⟨S2048x1024, .f32⟩
  | 7 => ⟨S2048x8, .f32⟩
  | 8 => ⟨S_, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x8, .f32⟩
  | 15 => ⟨S2048x8, .f32⟩
  | 16 => ⟨S2048x8, .f32⟩
  | 17 => ⟨S_, .f32⟩
  | 18 => ⟨S2048, .f32⟩
  | 19 => ⟨S2048x1, .f32⟩
  | 20 => ⟨S2048x8, .f32⟩
  | 21 => ⟨S2048x8, .f32⟩
  | 22 => ⟨S2048x2, .f32⟩
  | 23 => ⟨S2048x2, .i32⟩
  | 24 => ⟨S_, .f32⟩
  | 25 => ⟨S2048, .f32⟩
  | 26 => ⟨S2048x1, .f32⟩
  | 27 => ⟨S2048x2, .f32⟩
  | 28 => ⟨S2048x2, .f32⟩
  | 29 => ⟨S_, .f32⟩
  | 30 => ⟨S2048x1024, .f32⟩
  | 31 => ⟨S_, .i32⟩
  | 32 => ⟨S2048x2, .i32⟩
  | 33 => ⟨S2048x2, .i1⟩
  | 34 => ⟨S2048x2, .f32⟩
  | 35 => ⟨S2048x2, .f32⟩
  | 36 => ⟨S_, .f32⟩
  | 37 => ⟨S2048, .f32⟩
  | 38 => ⟨S_, .i1⟩
  | 39 => ⟨S2048, .i1⟩
  | 40 => ⟨S_, .i32⟩
  | 41 => ⟨S_, .i32⟩
  | 42 => ⟨S2048, .i32⟩
  | 43 => ⟨S2048, .i32⟩
  | 44 => ⟨S2048, .i32⟩
  | 45 => ⟨S2048, .i32⟩
  | 46 => ⟨S2048, .i32⟩
  | 47 => ⟨S2048, .i32⟩
  | 48 => ⟨S2048, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S1024x1, .i32⟩
  | 58 => ⟨S1024, .i1⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1024x1024, .f32⟩
  | 68 => ⟨S1x1024x704, .f32⟩
  | 69 => ⟨S1024x704, .f32⟩
  | 70 => ⟨S1024x704, .f32⟩
  | 71 => ⟨S1024x704, .f32⟩
  | 72 => ⟨S1024x704, .f32⟩
  | 73 => ⟨S_, .f32⟩
  | 74 => ⟨S1024x704, .f32⟩
  | 75 => ⟨S1024x704, .f32⟩
  | 76 => ⟨S_, .f32⟩
  | 77 => ⟨S1024x704, .f32⟩
  | 78 => ⟨S1024x704, .f32⟩
  | 79 => ⟨S1024x704, .f32⟩
  | 80 => ⟨S1x1024x704, .f32⟩
  | 81 => ⟨S1024x704, .f32⟩
  | 82 => ⟨S1024x704, .f32⟩
  | 83 => ⟨S1024x704, .f32⟩
  | 84 => ⟨S1x704x1024, .f32⟩
  | 85 => ⟨S704x1024, .f32⟩
  | 86 => ⟨S1024x1024, .f32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S1024x1, .i32⟩
  | 95 => ⟨S1024, .f32⟩
  | 96 => ⟨S1024, .f32⟩
  | 97 => ⟨S1024, .f32⟩
  | 98 => ⟨S1024x1, .f32⟩
  | 99 => ⟨S1024x1024, .f32⟩
  | 100 => ⟨S1024x1024, .f32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S1024x1, .i32⟩
  | 109 => ⟨S2048x1024, .f32⟩
  | 110 => ⟨S_, .i32⟩
  | 111 => ⟨S2048x2, .i32⟩
  | 112 => ⟨S2048x2, .i1⟩
  | 113 => ⟨S2048x2, .f32⟩
  | 114 => ⟨S2048x2, .f32⟩
  | 115 => ⟨S_, .f32⟩
  | 116 => ⟨S2048, .f32⟩
  | 117 => ⟨S_, .i1⟩
  | 118 => ⟨S2048, .i1⟩
  | 119 => ⟨S_, .i32⟩
  | 120 => ⟨S_, .i32⟩
  | 121 => ⟨S2048, .i32⟩
  | 122 => ⟨S2048, .i32⟩
  | 123 => ⟨S2048, .i32⟩
  | 124 => ⟨S2048, .i32⟩
  | 125 => ⟨S2048, .i32⟩
  | 126 => ⟨S2048, .i32⟩
  | 127 => ⟨S2048, .i32⟩
  | _ => ⟨S2048x1x1024, .f32⟩

abbrev hbmTy0_1 (i : Nat) : BufTy := match i % 128 with
  | 0 => ⟨S1024, .i32⟩
  | 1 => ⟨S_, .i32⟩
  | 2 => ⟨S1024, .i32⟩
  | 3 => ⟨S1024, .i1⟩
  | 4 => ⟨S_, .i32⟩
  | 5 => ⟨S1024, .i32⟩
  | 6 => ⟨S1024, .i32⟩
  | 7 => ⟨S1024, .i32⟩
  | 8 => ⟨S1024x1, .i32⟩
  | 9 => ⟨S1024, .i1⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1024x1024, .f32⟩
  | 19 => ⟨S1x1024x704, .f32⟩
  | 20 => ⟨S1024x704, .f32⟩
  | 21 => ⟨S1024x704, .f32⟩
  | 22 => ⟨S1024x704, .f32⟩
  | 23 => ⟨S1024x704, .f32⟩
  | 24 => ⟨S_, .f32⟩
  | 25 => ⟨S1024x704, .f32⟩
  | 26 => ⟨S1024x704, .f32⟩
  | 27 => ⟨S_, .f32⟩
  | 28 => ⟨S1024x704, .f32⟩
  | 29 => ⟨S1024x704, .f32⟩
  | 30 => ⟨S1024x704, .f32⟩
  | 31 => ⟨S1x1024x704, .f32⟩
  | 32 => ⟨S1024x704, .f32⟩
  | 33 => ⟨S1024x704, .f32⟩
  | 34 => ⟨S1024x704, .f32⟩
  | 35 => ⟨S1x704x1024, .f32⟩
  | 36 => ⟨S704x1024, .f32⟩
  | 37 => ⟨S1024x1024, .f32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1024, .f32⟩
  | 47 => ⟨S1024, .f32⟩
  | 48 => ⟨S1024, .f32⟩
  | 49 => ⟨S1024x1, .f32⟩
  | 50 => ⟨S1024x1024, .f32⟩
  | 51 => ⟨S1024x1024, .f32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S2048x1024, .f32⟩
  | 61 => ⟨S_, .i32⟩
  | 62 => ⟨S2048x2, .i32⟩
  | 63 => ⟨S2048x2, .i1⟩
  | 64 => ⟨S2048x2, .f32⟩
  | 65 => ⟨S2048x2, .f32⟩
  | 66 => ⟨S_, .f32⟩
  | 67 => ⟨S2048, .f32⟩
  | 68 => ⟨S_, .i1⟩
  | 69 => ⟨S2048, .i1⟩
  | 70 => ⟨S_, .i32⟩
  | 71 => ⟨S_, .i32⟩
  | 72 => ⟨S2048, .i32⟩
  | 73 => ⟨S2048, .i32⟩
  | 74 => ⟨S2048, .i32⟩
  | 75 => ⟨S2048, .i32⟩
  | 76 => ⟨S2048, .i32⟩
  | 77 => ⟨S2048, .i32⟩
  | 78 => ⟨S2048, .i32⟩
  | 79 => ⟨S1024, .i32⟩
  | 80 => ⟨S_, .i32⟩
  | 81 => ⟨S1024, .i32⟩
  | 82 => ⟨S1024, .i1⟩
  | 83 => ⟨S_, .i32⟩
  | 84 => ⟨S1024, .i32⟩
  | 85 => ⟨S1024, .i32⟩
  | 86 => ⟨S1024, .i32⟩
  | 87 => ⟨S1024x1, .i32⟩
  | 88 => ⟨S1024, .i1⟩
  | 89 => ⟨S_, .i32⟩
  | 90 => ⟨S1024, .i32⟩
  | 91 => ⟨S1024, .i1⟩
  | 92 => ⟨S_, .i32⟩
  | 93 => ⟨S1024, .i32⟩
  | 94 => ⟨S1024, .i32⟩
  | 95 => ⟨S1024, .i32⟩
  | 96 => ⟨S1024x1, .i32⟩
  | 97 => ⟨S1024x1024, .f32⟩
  | 98 => ⟨S1x1024x704, .f32⟩
  | 99 => ⟨S1024x704, .f32⟩
  | 100 => ⟨S1024x704, .f32⟩
  | 101 => ⟨S1024x704, .f32⟩
  | 102 => ⟨S1024x704, .f32⟩
  | 103 => ⟨S_, .f32⟩
  | 104 => ⟨S1024x704, .f32⟩
  | 105 => ⟨S1024x704, .f32⟩
  | 106 => ⟨S_, .f32⟩
  | 107 => ⟨S1024x704, .f32⟩
  | 108 => ⟨S1024x704, .f32⟩
  | 109 => ⟨S1024x704, .f32⟩
  | 110 => ⟨S1x1024x704, .f32⟩
  | 111 => ⟨S1024x704, .f32⟩
  | 112 => ⟨S1024x704, .f32⟩
  | 113 => ⟨S1024x704, .f32⟩
  | 114 => ⟨S1x704x1024, .f32⟩
  | 115 => ⟨S704x1024, .f32⟩
  | 116 => ⟨S1024x1024, .f32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S1024x1, .i32⟩
  | 125 => ⟨S1024, .f32⟩
  | 126 => ⟨S1024, .f32⟩
  | 127 => ⟨S1024, .f32⟩
  | _ => ⟨S2048x1x1024, .f32⟩

abbrev hbmTy0_2 (i : Nat) : BufTy := match i % 128 with
  | 0 => ⟨S1024x1, .f32⟩
  | 1 => ⟨S1024x1024, .f32⟩
  | 2 => ⟨S1024x1024, .f32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S2048x1024, .f32⟩
  | 12 => ⟨S_, .i32⟩
  | 13 => ⟨S2048x2, .i32⟩
  | 14 => ⟨S2048x2, .i1⟩
  | 15 => ⟨S2048x2, .f32⟩
  | 16 => ⟨S2048x2, .f32⟩
  | 17 => ⟨S_, .f32⟩
  | 18 => ⟨S2048, .f32⟩
  | 19 => ⟨S_, .i1⟩
  | 20 => ⟨S2048, .i1⟩
  | 21 => ⟨S_, .i32⟩
  | 22 => ⟨S_, .i32⟩
  | 23 => ⟨S2048, .i32⟩
  | 24 => ⟨S2048, .i32⟩
  | 25 => ⟨S2048, .i32⟩
  | 26 => ⟨S2048, .i32⟩
  | 27 => ⟨S2048, .i32⟩
  | 28 => ⟨S2048, .i32⟩
  | 29 => ⟨S2048, .i32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S1024, .i1⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S1024x1, .i32⟩
  | 48 => ⟨S1024x1024, .f32⟩
  | 49 => ⟨S1x1024x704, .f32⟩
  | 50 => ⟨S1024x704, .f32⟩
  | 51 => ⟨S1024x704, .f32⟩
  | 52 => ⟨S1024x704, .f32⟩
  | 53 => ⟨S1024x704, .f32⟩
  | 54 => ⟨S_, .f32⟩
  | 55 => ⟨S1024x704, .f32⟩
  | 56 => ⟨S1024x704, .f32⟩
  | 57 => ⟨S_, .f32⟩
  | 58 => ⟨S1024x704, .f32⟩
  | 59 => ⟨S1024x704, .f32⟩
  | 60 => ⟨S1024x704, .f32⟩
  | 61 => ⟨S1x1024x704, .f32⟩
  | 62 => ⟨S1024x704, .f32⟩
  | 63 => ⟨S1024x704, .f32⟩
  | 64 => ⟨S1024x704, .f32⟩
  | 65 => ⟨S1x704x1024, .f32⟩
  | 66 => ⟨S704x1024, .f32⟩
  | 67 => ⟨S1024x1024, .f32⟩
  | 68 => ⟨S_, .i32⟩
  | 69 => ⟨S1024, .i32⟩
  | 70 => ⟨S1024, .i1⟩
  | 71 => ⟨S_, .i32⟩
  | 72 => ⟨S1024, .i32⟩
  | 73 => ⟨S1024, .i32⟩
  | 74 => ⟨S1024, .i32⟩
  | 75 => ⟨S1024x1, .i32⟩
  | 76 => ⟨S1024, .f32⟩
  | 77 => ⟨S1024, .f32⟩
  | 78 => ⟨S1024, .f32⟩
  | 79 => ⟨S1024x1, .f32⟩
  | 80 => ⟨S1024x1024, .f32⟩
  | 81 => ⟨S1024x1024, .f32⟩
  | 82 => ⟨S_, .i32⟩
  | 83 => ⟨S1024, .i32⟩
  | 84 => ⟨S1024, .i1⟩
  | 85 => ⟨S_, .i32⟩
  | 86 => ⟨S1024, .i32⟩
  | 87 => ⟨S1024, .i32⟩
  | 88 => ⟨S1024, .i32⟩
  | 89 => ⟨S1024x1, .i32⟩
  | 90 => ⟨S2048x1024, .f32⟩
  | 91 => ⟨S_, .i32⟩
  | 92 => ⟨S2048x2, .i32⟩
  | 93 => ⟨S2048x2, .i1⟩
  | 94 => ⟨S2048x2, .f32⟩
  | 95 => ⟨S2048x2, .f32⟩
  | 96 => ⟨S_, .f32⟩
  | 97 => ⟨S2048, .f32⟩
  | 98 => ⟨S_, .i1⟩
  | 99 => ⟨S2048, .i1⟩
  | 100 => ⟨S_, .i32⟩
  | 101 => ⟨S_, .i32⟩
  | 102 => ⟨S2048, .i32⟩
  | 103 => ⟨S2048, .i32⟩
  | 104 => ⟨S2048, .i32⟩
  | 105 => ⟨S2048, .i32⟩
  | 106 => ⟨S2048, .i32⟩
  | 107 => ⟨S2048, .i32⟩
  | 108 => ⟨S2048, .i32⟩
  | 109 => ⟨S1024, .i32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024, .i1⟩
  | 119 => ⟨S_, .i32⟩
  | 120 => ⟨S1024, .i32⟩
  | 121 => ⟨S1024, .i1⟩
  | 122 => ⟨S_, .i32⟩
  | 123 => ⟨S1024, .i32⟩
  | 124 => ⟨S1024, .i32⟩
  | 125 => ⟨S1024, .i32⟩
  | 126 => ⟨S1024x1, .i32⟩
  | 127 => ⟨S1024x1024, .f32⟩
  | _ => ⟨S2048x1x1024, .f32⟩

abbrev hbmTy0_3 (i : Nat) : BufTy := match i % 128 with
  | 0 => ⟨S1x1024x704, .f32⟩
  | 1 => ⟨S1024x704, .f32⟩
  | 2 => ⟨S1024x704, .f32⟩
  | 3 => ⟨S1024x704, .f32⟩
  | 4 => ⟨S1024x704, .f32⟩
  | 5 => ⟨S_, .f32⟩
  | 6 => ⟨S1024x704, .f32⟩
  | 7 => ⟨S1024x704, .f32⟩
  | 8 => ⟨S_, .f32⟩
  | 9 => ⟨S1024x704, .f32⟩
  | 10 => ⟨S1024x704, .f32⟩
  | 11 => ⟨S1024x704, .f32⟩
  | 12 => ⟨S1x1024x704, .f32⟩
  | 13 => ⟨S1024x704, .f32⟩
  | 14 => ⟨S1024x704, .f32⟩
  | 15 => ⟨S1024x704, .f32⟩
  | 16 => ⟨S1x704x1024, .f32⟩
  | 17 => ⟨S704x1024, .f32⟩
  | 18 => ⟨S1024x1024, .f32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .f32⟩
  | 28 => ⟨S1024, .f32⟩
  | 29 => ⟨S1024, .f32⟩
  | 30 => ⟨S1024x1, .f32⟩
  | 31 => ⟨S1024x1024, .f32⟩
  | 32 => ⟨S1024x1024, .f32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S2048x1024, .f32⟩
  | 42 => ⟨S_, .i32⟩
  | 43 => ⟨S2048x2, .i32⟩
  | 44 => ⟨S2048x2, .i1⟩
  | 45 => ⟨S2048x2, .f32⟩
  | 46 => ⟨S2048x2, .f32⟩
  | 47 => ⟨S_, .f32⟩
  | 48 => ⟨S2048, .f32⟩
  | 49 => ⟨S_, .i1⟩
  | 50 => ⟨S2048, .i1⟩
  | 51 => ⟨S_, .i32⟩
  | 52 => ⟨S_, .i32⟩
  | 53 => ⟨S2048, .i32⟩
  | 54 => ⟨S2048, .i32⟩
  | 55 => ⟨S2048, .i32⟩
  | 56 => ⟨S2048, .i32⟩
  | 57 => ⟨S2048, .i32⟩
  | 58 => ⟨S2048, .i32⟩
  | 59 => ⟨S2048, .i32⟩
  | 60 => ⟨S1024, .i32⟩
  | 61 => ⟨S_, .i32⟩
  | 62 => ⟨S1024, .i32⟩
  | 63 => ⟨S1024, .i1⟩
  | 64 => ⟨S_, .i32⟩
  | 65 => ⟨S1024, .i32⟩
  | 66 => ⟨S1024, .i32⟩
  | 67 => ⟨S1024, .i32⟩
  | 68 => ⟨S1024x1, .i32⟩
  | 69 => ⟨S1024, .i1⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x1024, .f32⟩
  | 79 => ⟨S1x1024x704, .f32⟩
  | 80 => ⟨S1024x704, .f32⟩
  | 81 => ⟨S1024x704, .f32⟩
  | 82 => ⟨S1024x704, .f32⟩
  | 83 => ⟨S1024x704, .f32⟩
  | 84 => ⟨S_, .f32⟩
  | 85 => ⟨S1024x704, .f32⟩
  | 86 => ⟨S1024x704, .f32⟩
  | 87 => ⟨S_, .f32⟩
  | 88 => ⟨S1024x704, .f32⟩
  | 89 => ⟨S1024x704, .f32⟩
  | 90 => ⟨S1024x704, .f32⟩
  | 91 => ⟨S1x1024x704, .f32⟩
  | 92 => ⟨S1024x704, .f32⟩
  | 93 => ⟨S1024x704, .f32⟩
  | 94 => ⟨S1024x704, .f32⟩
  | 95 => ⟨S1x704x1024, .f32⟩
  | 96 => ⟨S704x1024, .f32⟩
  | 97 => ⟨S1024x1024, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024, .f32⟩
  | 107 => ⟨S1024, .f32⟩
  | 108 => ⟨S1024, .f32⟩
  | 109 => ⟨S1024x1, .f32⟩
  | 110 => ⟨S1024x1024, .f32⟩
  | 111 => ⟨S1024x1024, .f32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S2048x1024, .f32⟩
  | 121 => ⟨S_, .i32⟩
  | 122 => ⟨S2048x2, .i32⟩
  | 123 => ⟨S2048x2, .i1⟩
  | 124 => ⟨S2048x2, .f32⟩
  | 125 => ⟨S2048x2, .f32⟩
  | 126 => ⟨S_, .f32⟩
  | 127 => ⟨S2048, .f32⟩
  | _ => ⟨S2048x1x1024, .f32⟩

abbrev hbmTy0_4 (i : Nat) : BufTy := match i % 128 with
  | 0 => ⟨S_, .i1⟩
  | 1 => ⟨S2048, .i1⟩
  | 2 => ⟨S_, .i32⟩
  | 3 => ⟨S_, .i32⟩
  | 4 => ⟨S2048, .i32⟩
  | 5 => ⟨S2048, .i32⟩
  | 6 => ⟨S2048, .i32⟩
  | 7 => ⟨S2048, .i32⟩
  | 8 => ⟨S2048, .i32⟩
  | 9 => ⟨S2048, .i32⟩
  | 10 => ⟨S2048, .i32⟩
  | 11 => ⟨S1024, .i32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S1024x1, .i32⟩
  | 20 => ⟨S1024, .i1⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x1024, .f32⟩
  | 30 => ⟨S1x1024x704, .f32⟩
  | 31 => ⟨S1024x704, .f32⟩
  | 32 => ⟨S1024x704, .f32⟩
  | 33 => ⟨S1024x704, .f32⟩
  | 34 => ⟨S1024x704, .f32⟩
  | 35 => ⟨S_, .f32⟩
  | 36 => ⟨S1024x704, .f32⟩
  | 37 => ⟨S1024x704, .f32⟩
  | 38 => ⟨S_, .f32⟩
  | 39 => ⟨S1024x704, .f32⟩
  | 40 => ⟨S1024x704, .f32⟩
  | 41 => ⟨S1024x704, .f32⟩
  | 42 => ⟨S1x1024x704, .f32⟩
  | 43 => ⟨S1024x704, .f32⟩
  | 44 => ⟨S1024x704, .f32⟩
  | 45 => ⟨S1024x704, .f32⟩
  | 46 => ⟨S1x704x1024, .f32⟩
  | 47 => ⟨S704x1024, .f32⟩
  | 48 => ⟨S1024x1024, .f32⟩
  | 49 => ⟨S_, .i32⟩
  | 50 => ⟨S1024, .i32⟩
  | 51 => ⟨S1024, .i1⟩
  | 52 => ⟨S_, .i32⟩
  | 53 => ⟨S1024, .i32⟩
  | 54 => ⟨S1024, .i32⟩
  | 55 => ⟨S1024, .i32⟩
  | 56 => ⟨S1024x1, .i32⟩
  | 57 => ⟨S1024, .f32⟩
  | 58 => ⟨S1024, .f32⟩
  | 59 => ⟨S1024, .f32⟩
  | 60 => ⟨S1024x1, .f32⟩
  | 61 => ⟨S1024x1024, .f32⟩
  | 62 => ⟨S1024x1024, .f32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S2048x1024, .f32⟩
  | 72 => ⟨S_, .i32⟩
  | 73 => ⟨S2048x2, .i32⟩
  | 74 => ⟨S2048x2, .i1⟩
  | 75 => ⟨S2048x2, .f32⟩
  | 76 => ⟨S2048x2, .f32⟩
  | 77 => ⟨S_, .f32⟩
  | 78 => ⟨S2048, .f32⟩
  | 79 => ⟨S_, .i1⟩
  | 80 => ⟨S2048, .i1⟩
  | 81 => ⟨S_, .i32⟩
  | 82 => ⟨S_, .i32⟩
  | 83 => ⟨S2048, .i32⟩
  | 84 => ⟨S2048, .i32⟩
  | 85 => ⟨S2048, .i32⟩
  | 86 => ⟨S2048, .i32⟩
  | 87 => ⟨S2048, .i32⟩
  | 88 => ⟨S2048, .i32⟩
  | 89 => ⟨S2048, .i32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S1024x1, .i32⟩
  | 99 => ⟨S1024, .i1⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024x1024, .f32⟩
  | 109 => ⟨S1x1024x704, .f32⟩
  | 110 => ⟨S1024x704, .f32⟩
  | 111 => ⟨S1024x704, .f32⟩
  | 112 => ⟨S1024x704, .f32⟩
  | 113 => ⟨S1024x704, .f32⟩
  | 114 => ⟨S_, .f32⟩
  | 115 => ⟨S1024x704, .f32⟩
  | 116 => ⟨S1024x704, .f32⟩
  | 117 => ⟨S_, .f32⟩
  | 118 => ⟨S1024x704, .f32⟩
  | 119 => ⟨S1024x704, .f32⟩
  | 120 => ⟨S1024x704, .f32⟩
  | 121 => ⟨S1x1024x704, .f32⟩
  | 122 => ⟨S1024x704, .f32⟩
  | 123 => ⟨S1024x704, .f32⟩
  | 124 => ⟨S1024x704, .f32⟩
  | 125 => ⟨S1x704x1024, .f32⟩
  | 126 => ⟨S704x1024, .f32⟩
  | 127 => ⟨S1024x1024, .f32⟩
  | _ => ⟨S2048x1x1024, .f32⟩

abbrev hbmTy0_5 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S1024, .f32⟩
  | 9 => ⟨S1024, .f32⟩
  | 10 => ⟨S1024, .f32⟩
  | 11 => ⟨S1024x1, .f32⟩
  | 12 => ⟨S1024x1024, .f32⟩
  | 13 => ⟨S1024x1024, .f32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S2048x1024, .f32⟩
  | 23 => ⟨S1x2048x1024, .f32⟩
  | 24 => ⟨S2048x1x1024, .f32⟩
  | _ => ⟨S2048x1x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x1x1024, .f32⟩

abbrev bufTy : (tb : Table) → Fin (tcTables nBuf tb) → BufTy
  | .hbm, ⟨i, _⟩ => hbmTy i
  | _, _ => ⟨S2048x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_c_6 : Ref sig .tc := ⟨.hbm, 40, rfl⟩
abbrev main_c_7 : Ref sig .tc := ⟨.hbm, 41, rfl⟩
abbrev main_call0_v0 : Ref sig .tc := ⟨.hbm, 42, rfl⟩
abbrev main_call0_v1 : Ref sig .tc := ⟨.hbm, 43, rfl⟩
abbrev main_v25 : Ref sig .tc := ⟨.hbm, 44, rfl⟩
abbrev main_v26 : Ref sig .tc := ⟨.hbm, 45, rfl⟩
abbrev main_call1_v0 : Ref sig .tc := ⟨.hbm, 46, rfl⟩
abbrev main_call1_v1_0 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_12 : Ref sig .tc := ⟨.hbm, 87, rfl⟩
abbrev main_v54 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_14 : Ref sig .tc := ⟨.hbm, 101, rfl⟩
abbrev main_v66 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_17 : Ref sig .tc := ⟨.hbm, 115, rfl⟩
abbrev main_v77 : Ref sig .tc := ⟨.hbm, 116, rfl⟩
abbrev main_c_18 : Ref sig .tc := ⟨.hbm, 117, rfl⟩
abbrev main_v78 : Ref sig .tc := ⟨.hbm, 118, rfl⟩
abbrev main_c_19 : Ref sig .tc := ⟨.hbm, 119, rfl⟩
abbrev main_c_20 : Ref sig .tc := ⟨.hbm, 120, rfl⟩
abbrev main_call3_v0 : Ref sig .tc := ⟨.hbm, 121, rfl⟩
abbrev main_call3_v1 : Ref sig .tc := ⟨.hbm, 122, rfl⟩
abbrev main_v79 : Ref sig .tc := ⟨.hbm, 123, rfl⟩
abbrev main_v80 : Ref sig .tc := ⟨.hbm, 124, rfl⟩
abbrev main_call4_v0 : Ref sig .tc := ⟨.hbm, 125, rfl⟩
abbrev main_call4_v1_0 : Ref sig .tc := ⟨.hbm, 126, rfl⟩
abbrev main_v81 : Ref sig .tc := ⟨.hbm, 127, rfl⟩
abbrev main_v82 : Ref sig .tc := ⟨.hbm, 128, rfl⟩
abbrev main_c_21 : Ref sig .tc := ⟨.hbm, 129, rfl⟩
abbrev main_v83 : Ref sig .tc := ⟨.hbm, 130, rfl⟩
abbrev main_v84 : Ref sig .tc := ⟨.hbm, 131, rfl⟩
abbrev main_c_22 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_23 : Ref sig .tc := ⟨.hbm, 138, rfl⟩
abbrev main_v90 : Ref sig .tc := ⟨.hbm, 139, rfl⟩
abbrev main_v91 : Ref sig .tc := ⟨.hbm, 140, rfl⟩
abbrev main_c_24 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call5_v0 : Ref sig .tc := ⟨.hbm, 150, rfl⟩
abbrev main_call5_v1 : Ref sig .tc := ⟨.hbm, 151, rfl⟩
abbrev main_call5_cst : Ref sig .tc := ⟨.hbm, 152, rfl⟩
abbrev main_call5_v2 : Ref sig .tc := ⟨.hbm, 153, rfl⟩
abbrev main_call5_v3 : Ref sig .tc := ⟨.hbm, 154, rfl⟩
abbrev main_call5_cst_0 : Ref sig .tc := ⟨.hbm, 155, rfl⟩
abbrev main_call5_v4 : Ref sig .tc := ⟨.hbm, 156, rfl⟩
abbrev main_call5_v5 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_c_25 : Ref sig .tc := ⟨.hbm, 166, rfl⟩
abbrev main_v108 : Ref sig .tc := ⟨.hbm, 167, rfl⟩
abbrev main_v109 : Ref sig .tc := ⟨.hbm, 168, rfl⟩
abbrev main_c_26 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_c_27 : Ref sig .tc := ⟨.hbm, 180, rfl⟩
abbrev main_v120 : Ref sig .tc := ⟨.hbm, 181, rfl⟩
abbrev main_v121 : Ref sig .tc := ⟨.hbm, 182, rfl⟩
abbrev main_c_28 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_29 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_30 : Ref sig .tc := ⟨.hbm, 194, rfl⟩
abbrev main_v131 : Ref sig .tc := ⟨.hbm, 195, rfl⟩
abbrev main_c_31 : Ref sig .tc := ⟨.hbm, 196, rfl⟩
abbrev main_v132 : Ref sig .tc := ⟨.hbm, 197, rfl⟩
abbrev main_c_32 : Ref sig .tc := ⟨.hbm, 198, rfl⟩
abbrev main_c_33 : Ref sig .tc := ⟨.hbm, 199, rfl⟩
abbrev main_call6_v0 : Ref sig .tc := ⟨.hbm, 200, rfl⟩
abbrev main_call6_v1 : Ref sig .tc := ⟨.hbm, 201, rfl⟩
abbrev main_v133 : Ref sig .tc := ⟨.hbm, 202, rfl⟩
abbrev main_v134 : Ref sig .tc := ⟨.hbm, 203, rfl⟩
abbrev main_call7_v0 : Ref sig .tc := ⟨.hbm, 204, rfl⟩
abbrev main_call7_v1_0 : Ref sig .tc := ⟨.hbm, 205, rfl⟩
abbrev main_v135 : Ref sig .tc := ⟨.hbm, 206, rfl⟩
abbrev main_v136 : Ref sig .tc := ⟨.hbm, 207, rfl⟩
abbrev main_c_34 : Ref sig .tc := ⟨.hbm, 208, rfl⟩
abbrev main_v137 : Ref sig .tc := ⟨.hbm, 209, rfl⟩
abbrev main_v138 : Ref sig .tc := ⟨.hbm, 210, rfl⟩
abbrev main_c_35 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_c_36 : Ref sig .tc := ⟨.hbm, 217, rfl⟩
abbrev main_v144 : Ref sig .tc := ⟨.hbm, 218, rfl⟩
abbrev main_v145 : Ref sig .tc := ⟨.hbm, 219, rfl⟩
abbrev main_c_37 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_call8_v0 : Ref sig .tc := ⟨.hbm, 229, rfl⟩
abbrev main_call8_v1 : Ref sig .tc := ⟨.hbm, 230, rfl⟩
abbrev main_call8_cst : Ref sig .tc := ⟨.hbm, 231, rfl⟩
abbrev main_call8_v2 : Ref sig .tc := ⟨.hbm, 232, rfl⟩
abbrev main_call8_v3 : Ref sig .tc := ⟨.hbm, 233, rfl⟩
abbrev main_call8_cst_0 : Ref sig .tc := ⟨.hbm, 234, rfl⟩
abbrev main_call8_v4 : Ref sig .tc := ⟨.hbm, 235, rfl⟩
abbrev main_call8_v5 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_c_38 : Ref sig .tc := ⟨.hbm, 245, rfl⟩
abbrev main_v162 : Ref sig .tc := ⟨.hbm, 246, rfl⟩
abbrev main_v163 : Ref sig .tc := ⟨.hbm, 247, rfl⟩
abbrev main_c_39 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_c_40 : Ref sig .tc := ⟨.hbm, 259, rfl⟩
abbrev main_v174 : Ref sig .tc := ⟨.hbm, 260, rfl⟩
abbrev main_v175 : Ref sig .tc := ⟨.hbm, 261, rfl⟩
abbrev main_c_41 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_c_42 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_cst_43 : Ref sig .tc := ⟨.hbm, 273, rfl⟩
abbrev main_v185 : Ref sig .tc := ⟨.hbm, 274, rfl⟩
abbrev main_c_44 : Ref sig .tc := ⟨.hbm, 275, rfl⟩
abbrev main_v186 : Ref sig .tc := ⟨.hbm, 276, rfl⟩
abbrev main_c_45 : Ref sig .tc := ⟨.hbm, 277, rfl⟩
abbrev main_c_46 : Ref sig .tc := ⟨.hbm, 278, rfl⟩
abbrev main_call9_v0 : Ref sig .tc := ⟨.hbm, 279, rfl⟩
abbrev main_call9_v1 : Ref sig .tc := ⟨.hbm, 280, rfl⟩
abbrev main_v187 : Ref sig .tc := ⟨.hbm, 281, rfl⟩
abbrev main_v188 : Ref sig .tc := ⟨.hbm, 282, rfl⟩
abbrev main_call10_v0 : Ref sig .tc := ⟨.hbm, 283, rfl⟩
abbrev main_call10_v1_0 : Ref sig .tc := ⟨.hbm, 284, rfl⟩
abbrev main_v189 : Ref sig .tc := ⟨.hbm, 285, rfl⟩
abbrev main_v190 : Ref sig .tc := ⟨.hbm, 286, rfl⟩
abbrev main_c_47 : Ref sig .tc := ⟨.hbm, 287, rfl⟩
abbrev main_v191 : Ref sig .tc := ⟨.hbm, 288, rfl⟩
abbrev main_v192 : Ref sig .tc := ⟨.hbm, 289, rfl⟩
abbrev main_c_48 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_c_49 : Ref sig .tc := ⟨.hbm, 296, rfl⟩
abbrev main_v198 : Ref sig .tc := ⟨.hbm, 297, rfl⟩
abbrev main_v199 : Ref sig .tc := ⟨.hbm, 298, rfl⟩
abbrev main_c_50 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_call11_v0 : Ref sig .tc := ⟨.hbm, 308, rfl⟩
abbrev main_call11_v1 : Ref sig .tc := ⟨.hbm, 309, rfl⟩
abbrev main_call11_cst : Ref sig .tc := ⟨.hbm, 310, rfl⟩
abbrev main_call11_v2 : Ref sig .tc := ⟨.hbm, 311, rfl⟩
abbrev main_call11_v3 : Ref sig .tc := ⟨.hbm, 312, rfl⟩
abbrev main_call11_cst_0 : Ref sig .tc := ⟨.hbm, 313, rfl⟩
abbrev main_call11_v4 : Ref sig .tc := ⟨.hbm, 314, rfl⟩
abbrev main_call11_v5 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_c_51 : Ref sig .tc := ⟨.hbm, 324, rfl⟩
abbrev main_v216 : Ref sig .tc := ⟨.hbm, 325, rfl⟩
abbrev main_v217 : Ref sig .tc := ⟨.hbm, 326, rfl⟩
abbrev main_c_52 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_c_53 : Ref sig .tc := ⟨.hbm, 338, rfl⟩
abbrev main_v228 : Ref sig .tc := ⟨.hbm, 339, rfl⟩
abbrev main_v229 : Ref sig .tc := ⟨.hbm, 340, rfl⟩
abbrev main_c_54 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_c_55 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_v238 : Ref sig .tc := ⟨.hbm, 351, rfl⟩
abbrev main_cst_56 : Ref sig .tc := ⟨.hbm, 352, rfl⟩
abbrev main_v239 : Ref sig .tc := ⟨.hbm, 353, rfl⟩
abbrev main_c_57 : Ref sig .tc := ⟨.hbm, 354, rfl⟩
abbrev main_v240 : Ref sig .tc := ⟨.hbm, 355, rfl⟩
abbrev main_c_58 : Ref sig .tc := ⟨.hbm, 356, rfl⟩
abbrev main_c_59 : Ref sig .tc := ⟨.hbm, 357, rfl⟩
abbrev main_call12_v0 : Ref sig .tc := ⟨.hbm, 358, rfl⟩
abbrev main_call12_v1 : Ref sig .tc := ⟨.hbm, 359, rfl⟩
abbrev main_v241 : Ref sig .tc := ⟨.hbm, 360, rfl⟩
abbrev main_v242 : Ref sig .tc := ⟨.hbm, 361, rfl⟩
abbrev main_call13_v0 : Ref sig .tc := ⟨.hbm, 362, rfl⟩
abbrev main_call13_v1_0 : Ref sig .tc := ⟨.hbm, 363, rfl⟩
abbrev main_v243 : Ref sig .tc := ⟨.hbm, 364, rfl⟩
abbrev main_v244 : Ref sig .tc := ⟨.hbm, 365, rfl⟩
abbrev main_c_60 : Ref sig .tc := ⟨.hbm, 366, rfl⟩
abbrev main_v245 : Ref sig .tc := ⟨.hbm, 367, rfl⟩
abbrev main_v246 : Ref sig .tc := ⟨.hbm, 368, rfl⟩
abbrev main_c_61 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_c_62 : Ref sig .tc := ⟨.hbm, 375, rfl⟩
abbrev main_v252 : Ref sig .tc := ⟨.hbm, 376, rfl⟩
abbrev main_v253 : Ref sig .tc := ⟨.hbm, 377, rfl⟩
abbrev main_c_63 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩
abbrev main_v260 : Ref sig .tc := ⟨.hbm, 385, rfl⟩
abbrev main_v261 : Ref sig .tc := ⟨.hbm, 386, rfl⟩
abbrev main_call14_v0 : Ref sig .tc := ⟨.hbm, 387, rfl⟩
abbrev main_call14_v1 : Ref sig .tc := ⟨.hbm, 388, rfl⟩
abbrev main_call14_cst : Ref sig .tc := ⟨.hbm, 389, rfl⟩
abbrev main_call14_v2 : Ref sig .tc := ⟨.hbm, 390, rfl⟩
abbrev main_call14_v3 : Ref sig .tc := ⟨.hbm, 391, rfl⟩
abbrev main_call14_cst_0 : Ref sig .tc := ⟨.hbm, 392, rfl⟩
abbrev main_call14_v4 : Ref sig .tc := ⟨.hbm, 393, rfl⟩
abbrev main_call14_v5 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_c_64 : Ref sig .tc := ⟨.hbm, 403, rfl⟩
abbrev main_v270 : Ref sig .tc := ⟨.hbm, 404, rfl⟩
abbrev main_v271 : Ref sig .tc := ⟨.hbm, 405, rfl⟩
abbrev main_c_65 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev main_v277 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_c_66 : Ref sig .tc := ⟨.hbm, 417, rfl⟩
abbrev main_v282 : Ref sig .tc := ⟨.hbm, 418, rfl⟩
abbrev main_v283 : Ref sig .tc := ⟨.hbm, 419, rfl⟩
abbrev main_c_67 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_v288 : Ref sig .tc := ⟨.hbm, 425, rfl⟩
abbrev main_c_68 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_cst_69 : Ref sig .tc := ⟨.hbm, 431, rfl⟩
abbrev main_v293 : Ref sig .tc := ⟨.hbm, 432, rfl⟩
abbrev main_c_70 : Ref sig .tc := ⟨.hbm, 433, rfl⟩
abbrev main_v294 : Ref sig .tc := ⟨.hbm, 434, rfl⟩
abbrev main_c_71 : Ref sig .tc := ⟨.hbm, 435, rfl⟩
abbrev main_c_72 : Ref sig .tc := ⟨.hbm, 436, rfl⟩
abbrev main_call15_v0 : Ref sig .tc := ⟨.hbm, 437, rfl⟩
abbrev main_call15_v1 : Ref sig .tc := ⟨.hbm, 438, rfl⟩
abbrev main_v295 : Ref sig .tc := ⟨.hbm, 439, rfl⟩
abbrev main_v296 : Ref sig .tc := ⟨.hbm, 440, rfl⟩
abbrev main_call16_v0 : Ref sig .tc := ⟨.hbm, 441, rfl⟩
abbrev main_call16_v1_0 : Ref sig .tc := ⟨.hbm, 442, rfl⟩
abbrev main_v297 : Ref sig .tc := ⟨.hbm, 443, rfl⟩
abbrev main_v298 : Ref sig .tc := ⟨.hbm, 444, rfl⟩
abbrev main_c_73 : Ref sig .tc := ⟨.hbm, 445, rfl⟩
abbrev main_v299 : Ref sig .tc := ⟨.hbm, 446, rfl⟩
abbrev main_v300 : Ref sig .tc := ⟨.hbm, 447, rfl⟩
abbrev main_c_74 : Ref sig .tc := ⟨.hbm, 448, rfl⟩
abbrev main_v301 : Ref sig .tc := ⟨.hbm, 449, rfl⟩
abbrev main_v302 : Ref sig .tc := ⟨.hbm, 450, rfl⟩
abbrev main_v303 : Ref sig .tc := ⟨.hbm, 451, rfl⟩
abbrev main_v304 : Ref sig .tc := ⟨.hbm, 452, rfl⟩
abbrev main_v305 : Ref sig .tc := ⟨.hbm, 453, rfl⟩
abbrev main_c_75 : Ref sig .tc := ⟨.hbm, 454, rfl⟩
abbrev main_v306 : Ref sig .tc := ⟨.hbm, 455, rfl⟩
abbrev main_v307 : Ref sig .tc := ⟨.hbm, 456, rfl⟩
abbrev main_c_76 : Ref sig .tc := ⟨.hbm, 457, rfl⟩
abbrev main_v308 : Ref sig .tc := ⟨.hbm, 458, rfl⟩
abbrev main_v309 : Ref sig .tc := ⟨.hbm, 459, rfl⟩
abbrev main_v310 : Ref sig .tc := ⟨.hbm, 460, rfl⟩
abbrev main_v311 : Ref sig .tc := ⟨.hbm, 461, rfl⟩
abbrev main_v312 : Ref sig .tc := ⟨.hbm, 462, rfl⟩
abbrev main_v313 : Ref sig .tc := ⟨.hbm, 463, rfl⟩
abbrev main_v314 : Ref sig .tc := ⟨.hbm, 464, rfl⟩
abbrev main_v315 : Ref sig .tc := ⟨.hbm, 465, rfl⟩
abbrev main_call17_v0 : Ref sig .tc := ⟨.hbm, 466, rfl⟩
abbrev main_call17_v1 : Ref sig .tc := ⟨.hbm, 467, rfl⟩
abbrev main_call17_cst : Ref sig .tc := ⟨.hbm, 468, rfl⟩
abbrev main_call17_v2 : Ref sig .tc := ⟨.hbm, 469, rfl⟩
abbrev main_call17_v3 : Ref sig .tc := ⟨.hbm, 470, rfl⟩
abbrev main_call17_cst_0 : Ref sig .tc := ⟨.hbm, 471, rfl⟩
abbrev main_call17_v4 : Ref sig .tc := ⟨.hbm, 472, rfl⟩
abbrev main_call17_v5 : Ref sig .tc := ⟨.hbm, 473, rfl⟩
abbrev main_v316 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_v320 : Ref sig .tc := ⟨.hbm, 478, rfl⟩
abbrev main_v321 : Ref sig .tc := ⟨.hbm, 479, rfl⟩
abbrev main_v322 : Ref sig .tc := ⟨.hbm, 480, rfl⟩
abbrev main_v323 : Ref sig .tc := ⟨.hbm, 481, rfl⟩
abbrev main_c_77 : Ref sig .tc := ⟨.hbm, 482, rfl⟩
abbrev main_v324 : Ref sig .tc := ⟨.hbm, 483, rfl⟩
abbrev main_v325 : Ref sig .tc := ⟨.hbm, 484, rfl⟩
abbrev main_c_78 : Ref sig .tc := ⟨.hbm, 485, rfl⟩
abbrev main_v326 : Ref sig .tc := ⟨.hbm, 486, rfl⟩
abbrev main_v327 : Ref sig .tc := ⟨.hbm, 487, rfl⟩
abbrev main_v328 : Ref sig .tc := ⟨.hbm, 488, rfl⟩
abbrev main_v329 : Ref sig .tc := ⟨.hbm, 489, rfl⟩
abbrev main_v330 : Ref sig .tc := ⟨.hbm, 490, rfl⟩
abbrev main_v331 : Ref sig .tc := ⟨.hbm, 491, rfl⟩
abbrev main_v332 : Ref sig .tc := ⟨.hbm, 492, rfl⟩
abbrev main_v333 : Ref sig .tc := ⟨.hbm, 493, rfl⟩
abbrev main_v334 : Ref sig .tc := ⟨.hbm, 494, rfl⟩
abbrev main_v335 : Ref sig .tc := ⟨.hbm, 495, rfl⟩
abbrev main_c_79 : Ref sig .tc := ⟨.hbm, 496, rfl⟩
abbrev main_v336 : Ref sig .tc := ⟨.hbm, 497, rfl⟩
abbrev main_v337 : Ref sig .tc := ⟨.hbm, 498, rfl⟩
abbrev main_c_80 : Ref sig .tc := ⟨.hbm, 499, rfl⟩
abbrev main_v338 : Ref sig .tc := ⟨.hbm, 500, rfl⟩
abbrev main_v339 : Ref sig .tc := ⟨.hbm, 501, rfl⟩
abbrev main_v340 : Ref sig .tc := ⟨.hbm, 502, rfl⟩
abbrev main_v341 : Ref sig .tc := ⟨.hbm, 503, rfl⟩
abbrev main_v342 : Ref sig .tc := ⟨.hbm, 504, rfl⟩
abbrev main_c_81 : Ref sig .tc := ⟨.hbm, 505, rfl⟩
abbrev main_v343 : Ref sig .tc := ⟨.hbm, 506, rfl⟩
abbrev main_v344 : Ref sig .tc := ⟨.hbm, 507, rfl⟩
abbrev main_v345 : Ref sig .tc := ⟨.hbm, 508, rfl⟩
abbrev main_v346 : Ref sig .tc := ⟨.hbm, 509, rfl⟩
abbrev main_cst_82 : Ref sig .tc := ⟨.hbm, 510, rfl⟩
abbrev main_v347 : Ref sig .tc := ⟨.hbm, 511, rfl⟩
abbrev main_c_83 : Ref sig .tc := ⟨.hbm, 512, rfl⟩
abbrev main_v348 : Ref sig .tc := ⟨.hbm, 513, rfl⟩
abbrev main_c_84 : Ref sig .tc := ⟨.hbm, 514, rfl⟩
abbrev main_c_85 : Ref sig .tc := ⟨.hbm, 515, rfl⟩
abbrev main_call18_v0 : Ref sig .tc := ⟨.hbm, 516, rfl⟩
abbrev main_call18_v1 : Ref sig .tc := ⟨.hbm, 517, rfl⟩
abbrev main_v349 : Ref sig .tc := ⟨.hbm, 518, rfl⟩
abbrev main_v350 : Ref sig .tc := ⟨.hbm, 519, rfl⟩
abbrev main_call19_v0 : Ref sig .tc := ⟨.hbm, 520, rfl⟩
abbrev main_call19_v1_0 : Ref sig .tc := ⟨.hbm, 521, rfl⟩
abbrev main_v351 : Ref sig .tc := ⟨.hbm, 522, rfl⟩
abbrev main_v352 : Ref sig .tc := ⟨.hbm, 523, rfl⟩
abbrev main_c_86 : Ref sig .tc := ⟨.hbm, 524, rfl⟩
abbrev main_v353 : Ref sig .tc := ⟨.hbm, 525, rfl⟩
abbrev main_v354 : Ref sig .tc := ⟨.hbm, 526, rfl⟩
abbrev main_c_87 : Ref sig .tc := ⟨.hbm, 527, rfl⟩
abbrev main_v355 : Ref sig .tc := ⟨.hbm, 528, rfl⟩
abbrev main_v356 : Ref sig .tc := ⟨.hbm, 529, rfl⟩
abbrev main_v357 : Ref sig .tc := ⟨.hbm, 530, rfl⟩
abbrev main_v358 : Ref sig .tc := ⟨.hbm, 531, rfl⟩
abbrev main_v359 : Ref sig .tc := ⟨.hbm, 532, rfl⟩
abbrev main_c_88 : Ref sig .tc := ⟨.hbm, 533, rfl⟩
abbrev main_v360 : Ref sig .tc := ⟨.hbm, 534, rfl⟩
abbrev main_v361 : Ref sig .tc := ⟨.hbm, 535, rfl⟩
abbrev main_c_89 : Ref sig .tc := ⟨.hbm, 536, rfl⟩
abbrev main_v362 : Ref sig .tc := ⟨.hbm, 537, rfl⟩
abbrev main_v363 : Ref sig .tc := ⟨.hbm, 538, rfl⟩
abbrev main_v364 : Ref sig .tc := ⟨.hbm, 539, rfl⟩
abbrev main_v365 : Ref sig .tc := ⟨.hbm, 540, rfl⟩
abbrev main_v366 : Ref sig .tc := ⟨.hbm, 541, rfl⟩
abbrev main_v367 : Ref sig .tc := ⟨.hbm, 542, rfl⟩
abbrev main_v368 : Ref sig .tc := ⟨.hbm, 543, rfl⟩
abbrev main_v369 : Ref sig .tc := ⟨.hbm, 544, rfl⟩
abbrev main_call20_v0 : Ref sig .tc := ⟨.hbm, 545, rfl⟩
abbrev main_call20_v1 : Ref sig .tc := ⟨.hbm, 546, rfl⟩
abbrev main_call20_cst : Ref sig .tc := ⟨.hbm, 547, rfl⟩
abbrev main_call20_v2 : Ref sig .tc := ⟨.hbm, 548, rfl⟩
abbrev main_call20_v3 : Ref sig .tc := ⟨.hbm, 549, rfl⟩
abbrev main_call20_cst_0 : Ref sig .tc := ⟨.hbm, 550, rfl⟩
abbrev main_call20_v4 : Ref sig .tc := ⟨.hbm, 551, rfl⟩
abbrev main_call20_v5 : Ref sig .tc := ⟨.hbm, 552, rfl⟩
abbrev main_v370 : Ref sig .tc := ⟨.hbm, 553, rfl⟩
abbrev main_v371 : Ref sig .tc := ⟨.hbm, 554, rfl⟩
abbrev main_v372 : Ref sig .tc := ⟨.hbm, 555, rfl⟩
abbrev main_v373 : Ref sig .tc := ⟨.hbm, 556, rfl⟩
abbrev main_v374 : Ref sig .tc := ⟨.hbm, 557, rfl⟩
abbrev main_v375 : Ref sig .tc := ⟨.hbm, 558, rfl⟩
abbrev main_v376 : Ref sig .tc := ⟨.hbm, 559, rfl⟩
abbrev main_v377 : Ref sig .tc := ⟨.hbm, 560, rfl⟩
abbrev main_c_90 : Ref sig .tc := ⟨.hbm, 561, rfl⟩
abbrev main_v378 : Ref sig .tc := ⟨.hbm, 562, rfl⟩
abbrev main_v379 : Ref sig .tc := ⟨.hbm, 563, rfl⟩
abbrev main_c_91 : Ref sig .tc := ⟨.hbm, 564, rfl⟩
abbrev main_v380 : Ref sig .tc := ⟨.hbm, 565, rfl⟩
abbrev main_v381 : Ref sig .tc := ⟨.hbm, 566, rfl⟩
abbrev main_v382 : Ref sig .tc := ⟨.hbm, 567, rfl⟩
abbrev main_v383 : Ref sig .tc := ⟨.hbm, 568, rfl⟩
abbrev main_v384 : Ref sig .tc := ⟨.hbm, 569, rfl⟩
abbrev main_v385 : Ref sig .tc := ⟨.hbm, 570, rfl⟩
abbrev main_v386 : Ref sig .tc := ⟨.hbm, 571, rfl⟩
abbrev main_v387 : Ref sig .tc := ⟨.hbm, 572, rfl⟩
abbrev main_v388 : Ref sig .tc := ⟨.hbm, 573, rfl⟩
abbrev main_v389 : Ref sig .tc := ⟨.hbm, 574, rfl⟩
abbrev main_c_92 : Ref sig .tc := ⟨.hbm, 575, rfl⟩
abbrev main_v390 : Ref sig .tc := ⟨.hbm, 576, rfl⟩
abbrev main_v391 : Ref sig .tc := ⟨.hbm, 577, rfl⟩
abbrev main_c_93 : Ref sig .tc := ⟨.hbm, 578, rfl⟩
abbrev main_v392 : Ref sig .tc := ⟨.hbm, 579, rfl⟩
abbrev main_v393 : Ref sig .tc := ⟨.hbm, 580, rfl⟩
abbrev main_v394 : Ref sig .tc := ⟨.hbm, 581, rfl⟩
abbrev main_v395 : Ref sig .tc := ⟨.hbm, 582, rfl⟩
abbrev main_v396 : Ref sig .tc := ⟨.hbm, 583, rfl⟩
abbrev main_c_94 : Ref sig .tc := ⟨.hbm, 584, rfl⟩
abbrev main_v397 : Ref sig .tc := ⟨.hbm, 585, rfl⟩
abbrev main_v398 : Ref sig .tc := ⟨.hbm, 586, rfl⟩
abbrev main_v399 : Ref sig .tc := ⟨.hbm, 587, rfl⟩
abbrev main_v400 : Ref sig .tc := ⟨.hbm, 588, rfl⟩
abbrev main_cst_95 : Ref sig .tc := ⟨.hbm, 589, rfl⟩
abbrev main_v401 : Ref sig .tc := ⟨.hbm, 590, rfl⟩
abbrev main_c_96 : Ref sig .tc := ⟨.hbm, 591, rfl⟩
abbrev main_v402 : Ref sig .tc := ⟨.hbm, 592, rfl⟩
abbrev main_c_97 : Ref sig .tc := ⟨.hbm, 593, rfl⟩
abbrev main_c_98 : Ref sig .tc := ⟨.hbm, 594, rfl⟩
abbrev main_call21_v0 : Ref sig .tc := ⟨.hbm, 595, rfl⟩
abbrev main_call21_v1 : Ref sig .tc := ⟨.hbm, 596, rfl⟩
abbrev main_v403 : Ref sig .tc := ⟨.hbm, 597, rfl⟩
abbrev main_v404 : Ref sig .tc := ⟨.hbm, 598, rfl⟩
abbrev main_call22_v0 : Ref sig .tc := ⟨.hbm, 599, rfl⟩
abbrev main_call22_v1_0 : Ref sig .tc := ⟨.hbm, 600, rfl⟩
abbrev main_v405 : Ref sig .tc := ⟨.hbm, 601, rfl⟩
abbrev main_v406 : Ref sig .tc := ⟨.hbm, 602, rfl⟩
abbrev main_c_99 : Ref sig .tc := ⟨.hbm, 603, rfl⟩
abbrev main_v407 : Ref sig .tc := ⟨.hbm, 604, rfl⟩
abbrev main_v408 : Ref sig .tc := ⟨.hbm, 605, rfl⟩
abbrev main_c_100 : Ref sig .tc := ⟨.hbm, 606, rfl⟩
abbrev main_v409 : Ref sig .tc := ⟨.hbm, 607, rfl⟩
abbrev main_v410 : Ref sig .tc := ⟨.hbm, 608, rfl⟩
abbrev main_v411 : Ref sig .tc := ⟨.hbm, 609, rfl⟩
abbrev main_v412 : Ref sig .tc := ⟨.hbm, 610, rfl⟩
abbrev main_v413 : Ref sig .tc := ⟨.hbm, 611, rfl⟩
abbrev main_c_101 : Ref sig .tc := ⟨.hbm, 612, rfl⟩
abbrev main_v414 : Ref sig .tc := ⟨.hbm, 613, rfl⟩
abbrev main_v415 : Ref sig .tc := ⟨.hbm, 614, rfl⟩
abbrev main_c_102 : Ref sig .tc := ⟨.hbm, 615, rfl⟩
abbrev main_v416 : Ref sig .tc := ⟨.hbm, 616, rfl⟩
abbrev main_v417 : Ref sig .tc := ⟨.hbm, 617, rfl⟩
abbrev main_v418 : Ref sig .tc := ⟨.hbm, 618, rfl⟩
abbrev main_v419 : Ref sig .tc := ⟨.hbm, 619, rfl⟩
abbrev main_v420 : Ref sig .tc := ⟨.hbm, 620, rfl⟩
abbrev main_v421 : Ref sig .tc := ⟨.hbm, 621, rfl⟩
abbrev main_v422 : Ref sig .tc := ⟨.hbm, 622, rfl⟩
abbrev main_v423 : Ref sig .tc := ⟨.hbm, 623, rfl⟩
abbrev main_call23_v0 : Ref sig .tc := ⟨.hbm, 624, rfl⟩
abbrev main_call23_v1 : Ref sig .tc := ⟨.hbm, 625, rfl⟩
abbrev main_call23_cst : Ref sig .tc := ⟨.hbm, 626, rfl⟩
abbrev main_call23_v2 : Ref sig .tc := ⟨.hbm, 627, rfl⟩
abbrev main_call23_v3 : Ref sig .tc := ⟨.hbm, 628, rfl⟩
abbrev main_call23_cst_0 : Ref sig .tc := ⟨.hbm, 629, rfl⟩
abbrev main_call23_v4 : Ref sig .tc := ⟨.hbm, 630, rfl⟩
abbrev main_call23_v5 : Ref sig .tc := ⟨.hbm, 631, rfl⟩
abbrev main_v424 : Ref sig .tc := ⟨.hbm, 632, rfl⟩
abbrev main_v425 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_v429 : Ref sig .tc := ⟨.hbm, 637, rfl⟩
abbrev main_v430 : Ref sig .tc := ⟨.hbm, 638, rfl⟩
abbrev main_v431 : Ref sig .tc := ⟨.hbm, 639, rfl⟩
abbrev main_c_103 : Ref sig .tc := ⟨.hbm, 640, rfl⟩
abbrev main_v432 : Ref sig .tc := ⟨.hbm, 641, rfl⟩
abbrev main_v433 : Ref sig .tc := ⟨.hbm, 642, rfl⟩
abbrev main_c_104 : Ref sig .tc := ⟨.hbm, 643, rfl⟩
abbrev main_v434 : Ref sig .tc := ⟨.hbm, 644, rfl⟩
abbrev main_v435 : Ref sig .tc := ⟨.hbm, 645, rfl⟩
abbrev main_v436 : Ref sig .tc := ⟨.hbm, 646, rfl⟩
abbrev main_v437 : Ref sig .tc := ⟨.hbm, 647, rfl⟩
abbrev main_v438 : Ref sig .tc := ⟨.hbm, 648, rfl⟩
abbrev main_v439 : Ref sig .tc := ⟨.hbm, 649, rfl⟩
abbrev main_v440 : Ref sig .tc := ⟨.hbm, 650, rfl⟩
abbrev main_v441 : Ref sig .tc := ⟨.hbm, 651, rfl⟩
abbrev main_v442 : Ref sig .tc := ⟨.hbm, 652, rfl⟩
abbrev main_v443 : Ref sig .tc := ⟨.hbm, 653, rfl⟩
abbrev main_c_105 : Ref sig .tc := ⟨.hbm, 654, rfl⟩
abbrev main_v444 : Ref sig .tc := ⟨.hbm, 655, rfl⟩
abbrev main_v445 : Ref sig .tc := ⟨.hbm, 656, rfl⟩
abbrev main_c_106 : Ref sig .tc := ⟨.hbm, 657, rfl⟩
abbrev main_v446 : Ref sig .tc := ⟨.hbm, 658, rfl⟩
abbrev main_v447 : Ref sig .tc := ⟨.hbm, 659, rfl⟩
abbrev main_v448 : Ref sig .tc := ⟨.hbm, 660, rfl⟩
abbrev main_v449 : Ref sig .tc := ⟨.hbm, 661, rfl⟩
abbrev main_v450 : Ref sig .tc := ⟨.hbm, 662, rfl⟩
abbrev main_v451 : Ref sig .tc := ⟨.hbm, 663, rfl⟩
abbrev main_v452 : Ref sig .tc := ⟨.hbm, 664, rfl⟩

abbrev nD : Nat := 1
abbrev τ : Topo := Topo.v7x

variable {F : FTy → Type} [FloatOps F]
-- ==== Proof.KernelIdeal.RouterBody.lean ====
/- What the router call leaves in its block of combine weights, and the run of its body.

   The body is straight-line: it reads the tokens and the gate matrix once, computes every token's two chosen experts
   and their weights, and then walks the tokens 256 at a time, keeping per expert the number of members met so far.
   `rowsOf`, `metBefore` and `keptRows` say that walk once, for the chunk of any number. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values -/

/-- Rows `256 j` to `256 j + 255` of a table with a row per token, as a rectangle of it. -/
abbrev rowsRect (j : ℕ) (h : ∀ a, (![256 * j, 0] : Fin 2 → ℕ) a + S256x8.size a ≤ S2048x8.size a) : Rect S2048x8 :=
  Rect.unit (s := S2048x8) ![256 * j, 0] S256x8.size h

/-- Chunk `j` of 256 rows lies inside the table. -/
theorem rows_inb (j : ℕ) (hj : j < 8) : ∀ a, (![256 * j, 0] : Fin 2 → ℕ) a + S256x8.size a ≤ S2048x8.size a := by
  intro a
  match a with
  | ⟨0, _⟩ => show 256 * j + 256 ≤ 2048; omega
  | ⟨1, _⟩ => exact Nat.le_refl 8

/-- Those rows of a table. -/
def rowsOf (tbl : FVec F S2048x8 .f32) (j : ℕ) (hj : j < 8) : FVec F S256x8 .f32 :=
  extractStridedSlice S256x8 ![256 * j, 0] tbl ⟨rfl, rows_inb j hj⟩

/-- The number of members of each expert in a chunk. -/
def countRows (s : FVec F S256x8 .f32) : FVec F S1x8 .f32 :=
  shapeCast S1x8 (multiReduction .add [0] S8 s 0x00000000#32 reduces_S256x8_S8 (.inl rfl) rfl) shapeCasts_S8_S1x8

/-- The number of members of each expert in the chunks before chunk `j`. -/
def metBefore (mem : FVec F S2048x8 .f32) : (j : ℕ) → j ≤ 8 → FVec F S1x8 .f32
  | 0, _ => k0_pay13
  | j + 1, h => addf (metBefore mem j (Nat.le_of_succ_le h)) (countRows (rowsOf mem j h))

/-- The weights of chunk `j` that the experts' capacity lets through: a member's weight is kept when fewer than 1024
    members come before it, in this chunk or an earlier one. -/
def keptRows (wts mem : FVec F S2048x8 .f32) (j : ℕ) (hj : j < 8) : FVec F S256x8 .f32 :=
  mulf (mulf (rowsOf wts j hj) (rowsOf mem j hj))
    (sitofp .f32 (extui 32 (cmpf .olt
      (addf (matmul dot_S256x256_S256x8_S256x8_1_0_0_1_n_n none k0_pay12 (rowsOf mem j hj) (constant S256x8 .f32 0x00000000#32))
        (broadcastTo S256x8 (metBefore mem j (Nat.le_of_lt hj)) broadcasts_S1x8_S256x8))
      (broadcast S256x8 (Scalar.ofBits .f32 0x44800000#32))) natLt_1_32))

/-- Every token's weights before the capacity is looked at. -/
def rawWeights (x : Vec F S2048x1x1024 .f32) (g : Vec F S1024x8 .f32) : FVec F S2048x8 .f32 :=
  k0_pay10 (k0_pay6 x g) (k0_pay7 x g) (k0_pay8 x g) (Scalar.ofBits .f32 0x00000000#32) (k0_pay9 x g)

/-- Whether each expert is one of the two a token chose, as 0 or 1. -/
def chosen (x : Vec F S2048x1x1024 .f32) (g : Vec F S1024x8 .f32) : FVec F S2048x8 .f32 :=
  k0_pay11 (k0_pay3 x g) (k0_pay6 x g)

/-- The stores of the body, the last first. -/
def pieces (wts mem : FVec F S2048x8 .f32) : List (View.Piece (Elt F) S2048x8 .f32) :=
  [⟨rowsRect 7 (rows_inb 7 (by decide)), keptRows wts mem 7 (by decide)⟩,
   ⟨rowsRect 6 (rows_inb 6 (by decide)), keptRows wts mem 6 (by decide)⟩,
   ⟨rowsRect 5 (rows_inb 5 (by decide)), keptRows wts mem 5 (by decide)⟩,
   ⟨rowsRect 4 (rows_inb 4 (by decide)), keptRows wts mem 4 (by decide)⟩,
   ⟨rowsRect 3 (rows_inb 3 (by decide)), keptRows wts mem 3 (by decide)⟩,
   ⟨rowsRect 2 (rows_inb 2 (by decide)), keptRows wts mem 2 (by decide)⟩,
   ⟨rowsRect 1 (rows_inb 1 (by decide)), keptRows wts mem 1 (by decide)⟩,
   ⟨rowsRect 0 (rows_inb 0 (by decide)), keptRows wts mem 0 (by decide)⟩]

/-- The block of combine weights the body leaves. -/
def routed (x : Vec F S2048x1x1024 .f32) (g : Vec F S1024x8 .f32) : Vec F S2048x8 .f32 :=
  View.canon (pieces (rawWeights x g) (chosen x g))

/-- The eight stores tile the block. -/
theorem pieces_cover (wts mem : FVec F S2048x8 .f32) (y : S2048x8.Idx) : ∃ pc ∈ pieces wts mem, y ∈ pc.1.set :=
  View.cover_of_tiled (pieces wts mem) S256x8.size (by rfl) y

/-! ## The run -/

/-- The whole of the tokens' buffer, and of the gate matrix's, as the body reads them. -/
abbrev allTokens : Rect S2048x1x1024 := Rect.unit (s := S2048x1x1024) ![0, 0, 0] S2048x1x1024.size inb_S2048x1x1024_S2048x1x1024_0_0_0
/-- The whole of the router's matrix. -/
abbrev allGate : Rect S1024x8 := Rect.unit (s := S1024x8) ![0, 0] S1024x8.size inb_S1024x8_S1024x8_0_0

set_option maxHeartbeats 1000000 in
/-- The router's body, on whole staging buffers holding the tokens and the gate matrix, leaves them and writes `routed`. -/
theorem router_body (c : Dev nD) (E : Set ℕ) (a0 : Memref sig .tc .vmem S2048x1x1024 .f32) (h0 : a0.IsWhole)
    (a1 : Memref sig .tc .vmem S1024x8 .f32) (h1 : a1.IsWhole) (a2 : Memref sig .tc .vmem S2048x8 .f32) (h2 : a2.IsWhole)
    (x : Vec F S2048x1x1024 .f32) (g : Vec F S1024x8 .f32) (K : PUnit → sProp 𝕄) :
    iprop(owns (c : Thread nD τ) a0 fullShare x ∗ owns (c : Thread nD τ) a1 fullShare g ∗ (∃ d, owns (c : Thread nD τ) a2 fullShare d)
        ∗ (iprop(owns (c : Thread nD τ) a0 fullShare x ∗ owns (c : Thread nD τ) a1 fullShare g
            ∗ owns (c : Thread nD τ) a2 fullShare (routed (View.ld x allTokens) (View.ld g allGate))) -∗ K ⟨⟩))
      ⊢ wp frame (wpE (defs₀ (F := F)) Variants.none c none) E (cc0__router_body a0 h0 a1 h1 a2 h2) K := by
  simp only [cc0__router_body_eq_skeleton]; unfold cc0__router_body_skel
  simp only [k0_part4_eq_skeleton, k0_part1_eq_skeleton, k0_part2_eq_skeleton, k0_part3_eq_skeleton]
  unfold owns
  iintro ⟨⟨%f0, %e0, H0⟩, ⟨%f1, %e1, H1⟩, ⟨%d2, %f2, -, H2⟩, Hk⟩
  subst e0 e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (pieces_cover _ _)

end Cert.KernelIdeal.Moe

end
-- ==== Proof.KernelIdeal.ExpertBody.lean ====
/- What the expert call leaves in its output block at one expert, and the run of its body.

   The body walks the tokens 512 at a time. Each chunk is put through the expert's two projections and the gating, scaled by
   the tokens' weight for this expert, and projected back. The first expert stores the result, a later one adds it to
   what the experts before it left. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The branches -/

/-- The four stores are guarded by the expert's number being 0, the four additions by its not being 0. -/
theorem first_iff (i : grid1.Coords) : k1_cond1 i = 1#1 ↔ (i 0).val = 0 := by
  have h : ∀ e : Fin 8, Scalar.cmpi .ne (Scalar.extui (Scalar.cmpi .eq (BitVec.ofNat 32 e.val) 0#32) : BitVec 32) 0#32 = 1#1 ↔ e.val = 0 := by decide
  exact h (i 0)

/-- The additions' guard. -/
theorem later_iff (i : grid1.Coords) : k1_cond2 i = 1#1 ↔ (i 0).val ≠ 0 := by
  have h : ∀ e : Fin 8, Scalar.cmpi .ne (Scalar.extui (Scalar.cmpi .ne (BitVec.ofNat 32 e.val) 0#32) : BitVec 32) 0#32 = 1#1 ↔ e.val ≠ 0 := by decide
  exact h (i 0)

/-! ## The values -/

/-- Chunk `j` of 512 tokens lies inside the tokens -/
theorem chunk_inb (j : ℕ) (hj : j < 4) : ∀ a, (![512 * j, 0, 0] : Fin 3 → ℕ) a + S512x1x1024.size a ≤ S2048x1x1024.size a := by
  intro a
  match a with
  | ⟨0, _⟩ => show 512 * j + 512 ≤ 2048; omega
  | ⟨1, _⟩ => exact Nat.le_refl 1
  | ⟨2, _⟩ => exact Nat.le_refl 1024

/-- and inside the table of weights. -/
theorem wchunk_inb (j : ℕ) (hj : j < 4) : ∀ a, (![512 * j, 0] : Fin 2 → ℕ) a + S512x8.size a ≤ S2048x8.size a := by
  intro a
  match a with
  | ⟨0, _⟩ => show 512 * j + 512 ≤ 2048; omega
  | ⟨1, _⟩ => exact Nat.le_refl 8

/-- The tokens of chunk `j`, in the buffer of the tokens and in that of the result. -/
abbrev chunkRect (j : ℕ) (hj : j < 4) : Rect S2048x1x1024 :=
  Rect.unit (s := S2048x1x1024) ![512 * j, 0, 0] S512x1x1024.size (chunk_inb j hj)

/-- The weights of the tokens of chunk `j`. -/
abbrev wchunkRect (j : ℕ) (hj : j < 4) : Rect S2048x8 := Rect.unit (s := S2048x8) ![512 * j, 0] S512x8.size (wchunk_inb j hj)

/-- The expert's matrices, read whole. -/
abbrev allIn : Rect S1x1024x704 := Rect.unit (s := S1x1024x704) ![0, 0, 0] S1x1024x704.size inb_S1x1024x704_S1x1024x704_0_0_0
/-- The whole matrix that projects back. -/
abbrev allOut : Rect S1x704x1024 := Rect.unit (s := S1x704x1024) ![0, 0, 0] S1x704x1024.size inb_S1x704x1024_S1x704x1024_0_0_0

/-- What expert `e` makes of the tokens of chunk `j`. -/
def expertRows (e : BitVec 32) (x : Vec F S2048x1x1024 .f32) (wg wu : Vec F S1x1024x704 .f32) (wd : Vec F S1x704x1024 .f32)
    (w : Vec F S2048x8 .f32) (j : ℕ) (hj : j < 4) : FVec F S512x1024 .f32 :=
  k1_pay6 e (View.ld x (chunkRect j hj)) (View.ld wg allIn) (View.ld wu allIn) (View.ld w (wchunkRect j hj)) (View.ld wd allOut)

/-- The store of chunk `j`: the expert's rows, or the old rows plus them. -/
def stored (first : Bool) (y : FVec F S512x1024 .f32) (old : Vec F S512x1x1024 .f32) : FVec F S512x1x1024 .f32 :=
  match first with
  | true => k1_pay1 y
  | false => k1_pay2 y old

/-- The stores of the body at one expert, the last first. -/
def outPieces (first : Bool) (y : (j : ℕ) → j < 4 → FVec F S512x1024 .f32) (old : Vec F S2048x1x1024 .f32) :
    List (View.Piece (Elt F) S2048x1x1024 .f32) :=
  [⟨chunkRect 3 (by decide), stored first (y 3 (by decide)) (View.ld old (chunkRect 3 (by decide)))⟩,
   ⟨chunkRect 2 (by decide), stored first (y 2 (by decide)) (View.ld old (chunkRect 2 (by decide)))⟩,
   ⟨chunkRect 1 (by decide), stored first (y 1 (by decide)) (View.ld old (chunkRect 1 (by decide)))⟩,
   ⟨chunkRect 0 (by decide), stored first (y 0 (by decide)) (View.ld old (chunkRect 0 (by decide)))⟩]

/-- They tile the block. -/
theorem outPieces_cover (first : Bool) (y : (j : ℕ) → j < 4 → FVec F S512x1024 .f32) (old : Vec F S2048x1x1024 .f32) (i : S2048x1x1024.Idx) :
    ∃ pc ∈ outPieces first y old, i ∈ pc.1.set :=
  View.cover_of_tiled (outPieces first y old) S512x1x1024.size (by rfl) i

/-- The output block after expert `e`, which found it at `old`. -/
def mixed (e : ℕ) (x : Vec F S2048x1x1024 .f32) (wg wu : Vec F S1x1024x704 .f32) (wd : Vec F S1x704x1024 .f32)
    (w : Vec F S2048x8 .f32) (old : Vec F S2048x1x1024 .f32) : Vec F S2048x1x1024 .f32 :=
  View.canon (outPieces (decide (e = 0)) (expertRows (BitVec.ofNat 32 e) x wg wu wd w) old)

/-- The first expert looks at nothing it finds there. -/
theorem mixed_zero (x : Vec F S2048x1x1024 .f32) (wg wu : Vec F S1x1024x704 .f32) (wd : Vec F S1x704x1024 .f32)
    (w : Vec F S2048x8 .f32) (old old' : Vec F S2048x1x1024 .f32) : mixed 0 x wg wu wd w old = mixed 0 x wg wu wd w old' := rfl

/-! ## The run -/

set_option maxHeartbeats 4000000 in
/-- The expert's body, on whole staging buffers, leaves its inputs and turns the output block into `mixed` of it. -/
theorem expert_body (c : Dev nD) (E : Set ℕ) (i : grid1.Coords) (a1 : Memref sig .tc .vmem S2048x1x1024 .f32) (h1 : a1.IsWhole)
    (a2 : Memref sig .tc .vmem S1x1024x704 .f32) (h2 : a2.IsWhole) (a3 : Memref sig .tc .vmem S1x1024x704 .f32) (h3 : a3.IsWhole)
    (a4 : Memref sig .tc .vmem S1x704x1024 .f32) (h4 : a4.IsWhole) (a5 : Memref sig .tc .vmem S2048x8 .f32) (h5 : a5.IsWhole)
    (a6 : Memref sig .tc .vmem S2048x1x1024 .f32) (h6 : a6.IsWhole)
    (x : Vec F S2048x1x1024 .f32) (wg wu : Vec F S1x1024x704 .f32) (wd : Vec F S1x704x1024 .f32) (w : Vec F S2048x8 .f32)
    (old : Vec F S2048x1x1024 .f32) (K : PUnit → sProp 𝕄) :
    iprop(owns (c : Thread nD τ) a1 fullShare x ∗ owns (c : Thread nD τ) a2 fullShare wg ∗ owns (c : Thread nD τ) a3 fullShare wu
        ∗ owns (c : Thread nD τ) a4 fullShare wd ∗ owns (c : Thread nD τ) a5 fullShare w ∗ owns (c : Thread nD τ) a6 fullShare old
        ∗ (iprop(owns (c : Thread nD τ) a1 fullShare x ∗ owns (c : Thread nD τ) a2 fullShare wg ∗ owns (c : Thread nD τ) a3 fullShare wu
            ∗ owns (c : Thread nD τ) a4 fullShare wd ∗ owns (c : Thread nD τ) a5 fullShare w
            ∗ owns (c : Thread nD τ) a6 fullShare (mixed (i 0).val x wg wu wd w old)) -∗ K ⟨⟩))
      ⊢ wp frame (wpE (defs₀ (F := F)) Variants.none c none) E (cc1__expert_body i a1 h1 a2 h2 a3 h3 a4 h4 a5 h5 a6 h6) K := by
  have hf : ∀ b : BitVec 1, b = k1_cond1 i → (b = 1#1 ↔ (i 0).val = 0) := fun b hb => hb ▸ first_iff i
  have hl : ∀ b : BitVec 1, b = k1_cond2 i → (b = 1#1 ↔ (i 0).val ≠ 0) := fun b hb => hb ▸ later_iff i
  simp only [cc1__expert_body_eq_skeleton]; unfold cc1__expert_body_skel
  simp only [k1_part1_eq_skeleton, k1_part2_eq_skeleton, k1_part3_eq_skeleton, k1_part4_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  by_cases h0 : (i 0).val = 0
  · have c1 : k1_cond1 i = 1#1 := (hf _ rfl).2 h0
    have c2 : ¬ k1_cond2 i = 1#1 := fun h => (hl _ rfl).1 h h0
    have c3 : k1_cond3 i = 1#1 := (hf _ rfl).2 h0
    have c4 : ¬ k1_cond4 i = 1#1 := fun h => (hl _ rfl).1 h h0
    have c5 : k1_cond5 i = 1#1 := (hf _ rfl).2 h0
    have c6 : ¬ k1_cond6 i = 1#1 := fun h => (hl _ rfl).1 h h0
    have c7 : k1_cond7 i = 1#1 := (hf _ rfl).2 h0
    have c8 : ¬ k1_cond8 i = 1#1 := fun h => (hl _ rfl).1 h h0
    sl_exec (disch := first | sl_exact c1 | sl_exact c2 | sl_exact c3 | sl_exact c4 | sl_exact c5 | sl_exact c6 | sl_exact c7 | sl_exact c8)
    sl_step
    iapply Hk
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro
    unfold mixed
    rw [show decide ((i 0).val = 0) = true from decide_eq_true h0]
    exact Eq.trans (by rfl) (View.read_writes_eq_canon a6.view f6 _ (outPieces_cover _ _ _))
  · have c1 : ¬ k1_cond1 i = 1#1 := fun h => h0 ((hf _ rfl).1 h)
    have c2 : k1_cond2 i = 1#1 := (hl _ rfl).2 h0
    have c3 : ¬ k1_cond3 i = 1#1 := fun h => h0 ((hf _ rfl).1 h)
    have c4 : k1_cond4 i = 1#1 := (hl _ rfl).2 h0
    have c5 : ¬ k1_cond5 i = 1#1 := fun h => h0 ((hf _ rfl).1 h)
    have c6 : k1_cond6 i = 1#1 := (hl _ rfl).2 h0
    have c7 : ¬ k1_cond7 i = 1#1 := fun h => h0 ((hf _ rfl).1 h)
    have c8 : k1_cond8 i = 1#1 := (hl _ rfl).2 h0
    sl_exec (disch := first | sl_exact c1 | sl_exact c2 | sl_exact c3 | sl_exact c4 | sl_exact c5 | sl_exact c6 | sl_exact c7 | sl_exact c8)
    sl_step
    iapply Hk
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro
    unfold mixed
    rw [show decide ((i 0).val = 0) = false from decide_eq_false h0]
    exact Eq.trans (by rfl) (View.read_writes_eq_canon a6.view f6 _ (outPieces_cover _ _ _))

end Cert.KernelIdeal.Moe

end
-- ==== Proof.KernelIdeal.Data.lean ====
/- What the windows' buffers hold at every point of the two calls, and that the bodies bring them there.

   Both calls are stated at any contents `V` of the arrays when the call begins. The router's call is one point. The
   expert call has a point per expert, its output block stays in place for all eight, and what it holds after expert
   `n` is `accum n`. -/
module

public import proofs.«01_k».proof.Proof.KernelIdeal.RouterBody
public import proofs.«01_k».proof.Proof.KernelIdeal.ExpertBody
public import Idealize.ShloMosaic.Lib.Pipeline.TableIdle
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The router's call -/

/-- A window's block of its array. -/
def rblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The router's call: the inputs stay, the weights are `routed` of them. -/
def routerDat (c : Dev nD) : Dat τ (Elt F) Unit ℕ (UR sig nD τ) ℕ cfg0 c where
  A w := V c (Pipeline.arrRef spec0 w)
  after w t := match w with
    | ⟨0, _⟩ => rblk V c 0 t
    | ⟨1, _⟩ => rblk V c 1 t
    | ⟨2, _⟩ => routed (View.ld (rblk V c 0 t : Vec F S2048x1x1024 .f32) allTokens) (View.ld (rblk V c 1 t : Vec F S1024x8 .f32) allGate)
  Φ _ := Pipeline.ΦA spec0 c
  q _ := fullShare
  owed _ := 0

/-- The router begins with its input blocks as fetched. -/
theorem router_before (c : Dev nD) (w : Fin cfg0.W) (hw : w.val < 2) (t : Fin cfg0.N) (d) :
    (routerDat V c).before w t d = (routerDat V c).fetched w t d := by
  obtain ⟨_ | _ | n, h⟩ := w
  all_goals first
    | exact (routerDat V c).before_in_eq_fetched _ rfl (fun _ => rfl) (fun _ _ _ => rfl) (fun _ => rfl) t d
    | (exfalso; simp only at hw; omega)

/-- The router's body does what its proof data say. -/
theorem router_runs (c : Dev nD) : BodyObligation (routerDat V c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  unfold bodyAt0
  have b0 (d) : (routerDat V c).before 0 t d = rblk V c 0 t := router_before V c 0 (by decide) t d
  have b1 (d) : (routerDat V c).before 1 t d = rblk V c 1 t := router_before V c 1 (by decide) t d
  simp only [b0, b1]
  rw [show (routerDat V c).Φ t.succ = (routerDat V c).Φ t.castSucc from rfl,
    show (routerDat V c).owesAt () t.succ = (routerDat V c).owesAt () t.castSucc from rfl]
  iintro ⟨HΦ, Ho, ⟨%d0, H0⟩, ⟨%d1, H1⟩, ⟨%d2, H2⟩⟩
  iapply (router_body c Set.univ _ _ _ _ _ _ (rblk V c 0 t) (rblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The expert call -/

/-- A window's block of its array. -/
def eblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block once expert `n` has been added to what it held. -/
def withExpert (c : Dev nD) (n : ℕ) (h : n < cfg1.N) (old : Vec F S2048x1x1024 .f32) : Vec F S2048x1x1024 .f32 :=
  mixed n (eblk V c 0 ⟨n, h⟩) (eblk V c 1 ⟨n, h⟩) (eblk V c 2 ⟨n, h⟩) (eblk V c 3 ⟨n, h⟩) (eblk V c 4 ⟨n, h⟩) old

/-- The first expert reads nothing of what the block held. -/
theorem withExpert_zero (c : Dev nD) (h : 0 < cfg1.N) (old old' : Vec F S2048x1x1024 .f32) :
    withExpert V c 0 h old = withExpert V c 0 h old' := by
  unfold withExpert
  exact mixed_zero _ _ _ _ _ _ _

/-- The output block after experts `0` to `n`. The first expert reads nothing of what the block held: the tokens stand
    for it. -/
def accum (c : Dev nD) : (n : ℕ) → n < cfg1.N → Vec F S2048x1x1024 .f32
  | 0, h => withExpert V c 0 h (eblk V c 0 ⟨0, h⟩)
  | n + 1, h => withExpert V c (n + 1) h (accum c n (Nat.lt_of_succ_lt h))

/-- The expert call: the inputs stay, the output accumulates. -/
def expertDat (c : Dev nD) : Dat τ (Elt F) Unit ℕ (UR sig nD τ) ℕ cfg1 c where
  A w := V c (Pipeline.arrRef spec1 w)
  after w t := match w with
    | ⟨0, _⟩ => eblk V c 0 t
    | ⟨1, _⟩ => eblk V c 1 t
    | ⟨2, _⟩ => eblk V c 2 t
    | ⟨3, _⟩ => eblk V c 3 t
    | ⟨4, _⟩ => eblk V c 4 t
    | ⟨5, _⟩ => accum V c t.val t.isLt
  Φ _ := Pipeline.ΦA spec1 c
  q _ := fullShare
  owed _ := 0

/-- An expert begins with its input blocks as fetched. -/
theorem expert_before (c : Dev nD) (w : Fin cfg1.W) (hw : w.val < 5) (t : Fin cfg1.N) (d) :
    (expertDat V c).before w t d = (expertDat V c).fetched w t d := by
  obtain ⟨_ | _ | _ | _ | _ | n, h⟩ := w
  all_goals first
    | exact (expertDat V c).before_in_eq_fetched _ rfl (fun _ => rfl) (fun _ _ _ => rfl) (fun _ => rfl) t d
    | (exfalso; simp only at hw; omega)

/-- Every point reads every input and stores the output, whichever of its two branches it takes. -/
theorem live : ∀ (w : Fin cfg1.W) (t : Fin cfg1.N), cfg1.idle w (cfg1.grid.coords t) = false := by decide +kernel

/-- The output's buffer holds nothing of the call's only before its first point and after its last. -/
def unwritten : ℕ → Bool
  | 0 => true
  | n + 1 => n == 7

/-- The output block is not fetched anew after the first expert. -/
theorem out_kept (t : Fin cfg1.N) (h : t.val ≠ 0) : cfg1.fresh 5 t.val = false := by
  have step : ∀ t : Fin cfg1.N, unwritten (t.val + 1)
      = ((cfg1.win 5).flush t || (cfg1.idle 5 (cfg1.grid.coords t) && unwritten t.val)) := by decide +kernel
  rw [Pipeline.Cfg.fresh_tab cfg1 5 unwritten rfl step t.val (Nat.le_of_lt t.isLt)]
  have hN : t.val < 8 := lt_of_lt_of_eq t.isLt (show cfg1.N = 8 from N_1)
  obtain ⟨n, hn⟩ := Nat.exists_eq_succ_of_ne_zero h
  rw [hn]
  exact beq_false_of_ne (by omega)

/-- After the first point the output's buffer holds what the point before left. -/
theorem out_before (c : Dev nD) (t : Fin cfg1.N) (h : t.val ≠ 0) (d) :
    (expertDat V c).before 5 t d = accum V c (t.val - 1) (Nat.lt_of_le_of_lt (Nat.sub_le _ _) t.isLt) := by
  rw [Dat.before_out_traj _ 5 rfl (fun _ _ => rfl)
      (fun t _ hi _ => absurd ((live 5 t).symm.trans hi) Bool.false_ne_true) t.val t rfl d,
    if_neg (by rw [out_kept t h]; exact Bool.false_ne_true)]
  rfl

/-- One more expert on top of what the buffer holds is the next accumulated block. -/
theorem accum_step (c : Dev nD) (t : Fin cfg1.N) (d) :
    withExpert V c t.val t.isLt ((expertDat V c).before 5 t d) = accum V c t.val t.isLt := by
  by_cases h : t.val = 0
  · obtain ⟨n, hn⟩ := t
    subst h
    exact withExpert_zero V c hn _ _
  · rw [out_before V c t h d]
    obtain ⟨n, hn⟩ := t
    obtain ⟨k, rfl⟩ := Nat.exists_eq_succ_of_ne_zero h
    rfl

/-- The grid point of step `t` is expert `t`. -/
theorem point_val (t : Fin cfg1.N) : (grid1.coords t 0).val = t.val := by
  have hN : t.val < 8 := lt_of_lt_of_eq t.isLt (show cfg1.N = 8 from N_1)
  have e : (grid1.coords t 0).val = t.val / 1 % 8 := Pipeline.Grid.coords_val t 0 (by decide) rfl
  omega

/-- The expert call's body does what its proof data say. -/
theorem expert_runs (c : Dev nD) : BodyObligation (expertDat V c) (defs₀ (F := F)) Variants.none () Set.univ := fun t => by
  have row : defs₀ (F := F) .tc cfg1.body (cfg1.bodyArgs t (cfg1.slots t)) = bodyAt1 t := by
    unfold defs₀; rw [Defs.onTc_tc]
  rw [bigSep_W1, bigSep_W1, row]
  unfold bodyAt1
  have b0 (d) : (expertDat V c).before 0 t d = eblk V c 0 t := expert_before V c 0 (by decide) t d
  have b1 (d) : (expertDat V c).before 1 t d = eblk V c 1 t := expert_before V c 1 (by decide) t d
  have b2 (d) : (expertDat V c).before 2 t d = eblk V c 2 t := expert_before V c 2 (by decide) t d
  have b3 (d) : (expertDat V c).before 3 t d = eblk V c 3 t := expert_before V c 3 (by decide) t d
  have b4 (d) : (expertDat V c).before 4 t d = eblk V c 4 t := expert_before V c 4 (by decide) t d
  simp only [b0, b1, b2, b3, b4]
  rw [show (expertDat V c).Φ t.succ = (expertDat V c).Φ t.castSucc from rfl,
    show (expertDat V c).owesAt () t.succ = (expertDat V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (expert_body c Set.univ (grid1.coords t) _ _ _ _ _ _ _ _ _ _ _ _ (eblk V c 0 t) (eblk V c 1 t) (eblk V c 2 t) (eblk V c 3 t)
    (eblk V c 4 t) ((expertDat V c).before 5 t d5) _)
  isplitl [H0]; · iexact H0
  isplitl [H1]; · iexact H1
  isplitl [H2]; · iexact H2
  isplitl [H3]; · iexact H3
  isplitl [H4]; · iexact H4
  isplitl [H5]; · iexact H5
  rw [point_val t, show mixed t.val (eblk V c 0 t) (eblk V c 1 t) (eblk V c 2 t) (eblk V c 3 t) (eblk V c 4 t)
    ((expertDat V c).before 5 t d5) = accum V c t.val t.isLt from accum_step V c t d5]
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  rw [show idle1 5 (grid1.coords t) = false from live 5 t]
  iexact H5

end Cert.KernelIdeal.Moe

end
-- ==== Proof.KernelIdeal.Run.lean ====
/- The run of the whole program: the router's call, then the expert call, from any contents of the arrays.

   `whole` is either call as a segment of the program, stated once for both; `run` says what every buffer holds when the
   program ends, and `frame` reads the arguments and the counters off it. -/
module

public import proofs.«01_k».proof.Proof.KernelIdeal.Data
public import Idealize.ShloMosaic.Lib.Pipeline.RegionsLoop
public import Idealize.ShloMosaic.Lib.Pipeline.FrameSuffix

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents of the buffers between the calls -/

section Contents
variable (m : (ℓ : Loc nD τ sig) → Buf (Elt F) ℓ)

/-- At the launch, -/
def atLaunch (c : Dev nD) : Valuation τ sig (Elt F) := fun b => m (c, b)
/-- after the router's call, -/
def afterRouter (c : Dev nD) : Valuation τ sig (Elt F) :=
  Pipeline.withArrays spec0 c (atLaunch m c) fun w => (routerDat (fun c b => atLaunch m c b) c).arrAt w cfg0.N
/-- and after the expert call. -/
def afterExperts (c : Dev nD) : Valuation τ sig (Elt F) :=
  Pipeline.withArrays spec1 c (afterRouter m c) fun w => (expertDat (fun c b => afterRouter m c b) c).arrAt w cfg1.N

/-- A buffer the router's call does not write is as launched after it, -/
theorem afterRouter_kept (c : Dev nD) (b : Ref sig .tc) (hb : b ≠ main_v0) : afterRouter m c b = atLaunch m c b := by
  by_cases h : ∃ w, Pipeline.arrRef spec0 w = b
  · obtain ⟨w, rfl⟩ := h
    refine (Pipeline.withArrays_arr spec0 launch0.win.arr_inj c _ _ w).trans
      ((routerDat (fun c b => atLaunch m c b) c).arrAt_in w ?_ cfg0.N)
    exact (by decide : ∀ w : Fin cfg0.W, Pipeline.arrRef spec0 w ≠ main_v0 → (cfg0.win w).isOut = false) w hb
  · exact Pipeline.withArrays_of_ne spec0 c _ _ b fun w e => h ⟨w, e⟩

/-- and one the expert call does not write is as it was before that call. -/
theorem afterExperts_kept (c : Dev nD) (b : Ref sig .tc) (hb : b ≠ main_v1) : afterExperts m c b = afterRouter m c b := by
  by_cases h : ∃ w, Pipeline.arrRef spec1 w = b
  · obtain ⟨w, rfl⟩ := h
    refine (Pipeline.withArrays_arr spec1 launch1.win.arr_inj c _ _ w).trans
      ((expertDat (fun c b => afterRouter m c b) c).arrAt_in w ?_ cfg1.N)
    exact (by decide : ∀ w : Fin cfg1.W, Pipeline.arrRef spec1 w ≠ main_v1 → (cfg1.win w).isOut = false) w hb
  · exact Pipeline.withArrays_of_ne spec1 c _ _ b fun w e => h ⟨w, e⟩

/-! ## The calls as segments -/

/-- No call has a prefetched table. -/
abbrev adm : (p : Fin 2) → (pcfgs (F := F) p).Adm := fun p => (cfgs p).toPCfg_adm

/-- Each call's proof data at the contents it begins from. -/
def pdats : (p : Fin 2) → (c : Dev nD) → Dat τ (Elt F) Unit ℕ (UR sig nD τ) ℕ (Pipeline.pin (pcfgs (F := F)) adm p) c
  | ⟨0, _⟩ => fun c => routerDat (fun c b => atLaunch m c b) c
  | ⟨1, _⟩ => fun c => expertDat (fun c b => afterRouter m c b) c

/-- Neither call needs a variant, -/
abbrev 𝒱₀ : Variants := Variants.none
/-- a label on a semaphore, -/
abbrev L : GSem nD τ sig → Finset Unit := fun _ => ∅
/-- or a level. -/
abbrev lv : GSem nD τ sig → Unit → ℕ := fun _ _ => 0
/-- What accompanies the buffers: the generator's register, and that the core owes nothing. -/
abbrev rest (c : Dev nD) : sProp 𝕄 := iprop((∃ r, prngReg c r) ∗ ∃ W, owes (c : Thread nD τ) (0 : CellTallies nD τ sig Unit) W)

/-- Every unscoped buffer at given contents, with what accompanies them. -/
abbrev holding (c : Dev nD) (W : Valuation τ sig (Elt F)) : sProp 𝕄 :=
  iprop(StableHlo.held (c : Thread nD τ) (Pipeline.ucRefs τ sig) W ∗ rest c)

set_option backward.isDefEq.respectTransparency.types false in
/-- A call whose proof data start from the contents `W`, owe nothing and carry the plain invariant, as a segment: entered
    from the buffers at `W` and left with its arrays at their last contents. -/
def whole (p : Fin 2) (kit : Pipeline.LaunchFacts (nD := nD) (τ := τ) cfgs p) (W : Dev nD → Valuation τ sig (Elt F))
    (hbody : ∀ c, Pipeline.BodyObligationLoose (pdats m p c) defs₀ 𝒱₀ () Set.univ)
    (hA : ∀ c w, (pdats m p c).A w = W c (Pipeline.arrRef (cfgs p).spec w))
    (howed : ∀ c t, (pdats m p c).owed t = 0) (hq : ∀ c w, (pdats m p c).q w = fullShare)
    (hrec : ∀ c t, (pdats m p c).recorded t = Set.univ) (hΦ : ∀ c t, (pdats m p c).Φ t = Pipeline.ΦA (cfgs p).spec c) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := holding c (W c)
  post c := holding c (Pipeline.withArrays (cfgs p).spec c (W c) fun w => (pdats m p c).arrAt w (cfgs p).N)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) kit.win kit.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c)) (fun b => W c b)
      (fun b => Pipeline.withArrays (cfgs p).spec c (W c) (fun w => (pdats m p c).arrAt w (cfgs p).N) b)
      ((pdats m p c).arrAt · (cfgs p).N)
      (fun w => (Pipeline.withArrays_arr (cfgs p).spec kit.win.arr_inj c (W c) (fun w => (pdats m p c).arrAt w (cfgs p).N) w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The router's call, -/
def routerSeg : Pipeline.RegionSeg (pcfgs (F := F)) adm (pdats m) () defs₀ 𝒱₀ L lv 0 :=
  whole m 0 launch0 (atLaunch m) (fun c => (router_runs (fun c b => atLaunch m c b) c).loose) (fun _ _ => rfl) (fun _ _ => rfl) (fun _ _ => rfl) (fun _ _ => rfl) fun _ _ => rfl
/-- and the expert call. -/
def expertSeg : Pipeline.RegionSeg (pcfgs (F := F)) adm (pdats m) () defs₀ 𝒱₀ L lv 1 :=
  whole m 1 launch1 (afterRouter m) (fun c => (expert_runs (fun c b => afterRouter m c b) c).loose) (fun _ _ => rfl) (fun _ _ => rfl) (fun _ _ => rfl) (fun _ _ => rfl) fun _ _ => rfl

/-! ## The program -/

/-- The program, as its two calls. -/
abbrev calls : List (Pipeline.Seg (pcfgs (F := F)) adm (pdats m) () defs₀ 𝒱₀ L lv) := [.region (routerSeg m), .region (expertSeg m)]

/-- The program runs its two calls in turn. -/
theorem main_calls (c : Dev nD) : main (F := F) c = Pipeline.Seg.run (calls m) := (main_chain c).trans (by chain_rfl)

/-- What the buffers hold at the end, beside the generator's register. -/
abbrev ending (c : Dev nD) : sProp 𝕄 :=
  iprop(StableHlo.held (c : Thread nD τ) (Pipeline.ucRefs τ sig) (afterExperts m c) ∗ ∃ r, prngReg c r)

/-- What the expert call leaves. -/
theorem expert_post (c : Dev nD) : (expertSeg m).post c
    ⊢ iprop(ending m c ∗ ∃ W, owes (c : Thread nD τ) (0 : CellTallies nD τ sig Unit) W) := by
  show holding c (afterExperts m c) ⊢ _
  iintro ⟨Hh, Hp, Ho⟩
  isplitl [Hh Hp]
  · isplitl [Hh]; · iexact Hh
    iexact Hp
  iexact Ho

/-- A buffer outside every scope is among those carried between the calls. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every semaphore belongs to a scope. -/
theorem all_scoped : ∀ sm : SemLoc sig, sm.isScoped .tc = true := by decide

set_option backward.isDefEq.respectTransparency.types false in
/-- Every execution ends, with every unscoped buffer as the expert call leaves it and every counter at zero. -/
theorem run (ρ : Dev nD → PrngReg) : θ_run defs (onTc (τ := τ) (main (F := F))) ⟨m, fun _ => 0, ρ⟩ (fun r =>
    (∀ (c : Dev nD) (b : Ref sig .tc), ¬ (Proc.devRef .tc b : DevRef τ sig).isScoped →
      r.2.mem ((c.tc : Thread nD τ).loc b) = afterExperts m c b) ∧ r.2.sem = fun _ => 0) :=
  Pipeline.θ_run_regions_kit_sems (pcfgs (F := F)) adm (pdats m) () cellOf_inj emb₁ defs₀ 𝒱₀ L lv m ρ main (calls m)
    (fun c Q => by rw [main_calls m c])
    (by simp only [calls, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => holding c (atLaunch m c)) (Tₙ := ending m)
    (hch := ⟨fun _ => .rfl, fun _ => .rfl, fun c => expert_post m c⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterExperts m c b)
    (hfin := fun c s' => by
      iintro ⟨⟨Hh, -⟩, HSI⟩
      unfold StableHlo.held
      imodintro
      iapply (pointsTo_read_all (Pipeline.ucRefs τ sig) (fun b => (((c : Thread nD τ)).1, b)) (afterExperts m c) s')
      isplitl [Hh] <;> iassumption)
    (hQ := fun s h hz => ⟨fun c b hb => h c _ (mem_unscoped b hb), funext fun g => hz g (.inr (all_scoped g.2))⟩)

/-- An argument ends as launched. -/
theorem arg_kept (c : Dev nD) (b : Ref sig .tc) (h0 : b ≠ main_v0) (h1 : b ≠ main_v1) :
    afterExperts m c b = m ((c : Thread nD τ).loc b) :=
  (afterExperts_kept m c b h1).trans (afterRouter_kept m c b h0)

/-- Every execution ends with the arguments as launched, the result as the expert call leaves it, every counter at zero. -/
theorem ends (ρ : Dev nD → PrngReg) : θ_run defs (onTc (τ := τ) (main (F := F))) ⟨m, fun _ => 0, ρ⟩ (fun r =>
    (∀ c : Dev nD, r.2.mem ((c.tc : Thread nD τ).loc main_v1) = (expertDat (fun c b => afterRouter m c b) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(h.1 c main_v1 (by decide)).trans (Pipeline.withArrays_arr spec1 launch1.win.arr_inj c _ _ 5),
     (h.1 c main_arg0 (by decide)).trans (arg_kept m c main_arg0 (by decide) (by decide)),
     (h.1 c main_arg1 (by decide)).trans (arg_kept m c main_arg1 (by decide) (by decide)),
     (h.1 c main_arg2 (by decide)).trans (arg_kept m c main_arg2 (by decide) (by decide)),
     (h.1 c main_arg3 (by decide)).trans (arg_kept m c main_arg3 (by decide) (by decide)),
     (h.1 c main_arg4 (by decide)).trans (arg_kept m c main_arg4 (by decide) (by decide))⟩, h.2⟩) (run m ρ)

/-- Every execution ends with the arguments as launched and every counter at zero. -/
theorem frame (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (ends m ρ)

end Contents

end Cert.KernelIdeal.Moe

end
-- ==== Proof.Kernel.Frame.lean ====
/- The frame of the program as given: its text is that of the ideal program, read at the machine's floating point. -/
module

public import proofs.«01_k».proof.Proof.KernelIdeal.Run
public import proofs.«01_k».proof.Kernel
public import proofs.«01_k».proof.Proof.Gen.Kernel.Skeleton

@[expose] public section

set_option maxRecDepth 16384

noncomputable section

namespace Cert.Kernel.Moe

open Idealize.ShloMosaic Idealize.ShloMosaic.TcCoe Idealize.SL.Sem

variable {F : FTy → Type} [FloatOps F]

/-- The two programs' kernel bodies are one text, -/
theorem bodies_same : defs₀ (F := F) = Cert.KernelIdeal.defs₀ (F := F) := by
  unfold defs₀ Cert.KernelIdeal.defs₀
  refine congrArg Defs.onTc (funext fun l => funext fun a => ?_)
  match l, a with
  | ⟨0, _⟩, (t, s) => exact rfl
  | ⟨1, _⟩, (t, s) => exact rfl
  | ⟨_ + 2, h⟩, _ => exact absurd h (Nat.not_lt.2 (Nat.le_add_left _ _))

/-- so are the tables their launches read. -/
theorem defs_same : defs (F := F) = Cert.KernelIdeal.defs (F := F) :=
  congrArg (Pipeline.defs pcfgs) bodies_same

/-- Every execution ends with the arguments as launched and every counter at zero. -/
theorem frame (m : (ℓ : Loc nD τ sig) → Buf (Elt F) ℓ) (ρ : Dev nD → PrngReg) :
    θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [defs_same]
  exact Cert.KernelIdeal.Moe.frame (F := F) m ρ

end Cert.Kernel.Moe

end
-- ==== Proof.ReferenceIdeal.Frame.lean ====
/- The frame of the reference: it is one list of array operations and has no semaphore. -/
module

public import proofs.«01_k».proof.Proof.Gen.ReferenceIdeal.Run

@[expose] public section

noncomputable section

namespace Cert.ReferenceIdeal.Moe

open Idealize.ShloMosaic Idealize.ShloMosaic.TcCoe Idealize.SL.Sem

variable {F : FTy → Type} [FloatOps F]

/-- The reference has no semaphore. -/
theorem no_semaphore : ∀ sm : SemLoc sig, False := by decide

/-- Every execution ends with the arguments as launched, and there is no counter to find elsewhere than at zero. -/
theorem frame (m : (ℓ : Loc nD τ sig) → Buf (Elt F) ℓ) (ρ : Dev nD → PrngReg) :
    θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2, funext fun g => (no_semaphore g.2).elim⟩)
    (Cert.ReferenceIdeal.Value.run m ρ)

end Cert.ReferenceIdeal.Moe

end
-- ==== Proof.Value.Order.lean ====
/-
  The order in which a stable sort leaves its positions: by key, and by position among equal keys. From it, where one position
  lands: its place is the number of positions that go before it.
-/
module

public import Idealize.ShloMosaic.Lib.PlanTiles.StableSort
public import Mathlib.Data.Fintype.Card

@[expose] public section

namespace Cert.Moe

open Idealize.ShloMosaic

/-- Two places of a stable sort by descending `G`: the earlier place holds the greater key, or the same key and the earlier position. -/
theorem places_ordered {n : ℕ} (lt : Fin n → Fin n → Bool) (G : Fin n → ℕ) (h : ∀ a b, lt a b = decide (G b < G a))
    {i j : Fin n} (hij : i < j) :
    G (sortedFrom lt j) < G (sortedFrom lt i)
      ∨ (G (sortedFrom lt i) = G (sortedFrom lt j) ∧ sortedFrom lt i < sortedFrom lt j) := by
  obtain rfl : lt = fun a b => decide (G b < G a) := funext fun a => funext fun b => h a b
  have hp := PlanTiles.pairwise_stableSort_lex G (fun a b : Fin n => a < b) (List.finRange n) (List.pairwise_lt_finRange n)
  have hp' := List.pairwise_iff_get.mp hp
  exact hp' (i.cast (length_sortPositions n _).symm) (j.cast (length_sortPositions n _).symm) hij

/-- The place of a position is the number of positions with a greater key, or with its key and earlier than it. -/
theorem place_eq_count {n : ℕ} (lt : Fin n → Fin n → Bool) (G : Fin n → ℕ) (h : ∀ a b, lt a b = decide (G b < G a)) (i : Fin n) :
    i.val = (Finset.univ.filter fun a : Fin n =>
      G (sortedFrom lt i) < G a ∨ (G a = G (sortedFrom lt i) ∧ a < sortedFrom lt i)).card := by
  have e : (Finset.univ.filter fun a : Fin n => G (sortedFrom lt i) < G a ∨ (G a = G (sortedFrom lt i) ∧ a < sortedFrom lt i))
      = (Finset.univ.filter fun k : Fin n => k < i).image (sortedFrom lt) := by
    ext a
    obtain ⟨k, rfl⟩ := sortedFrom_surjective lt a
    simp only [Finset.mem_filter, Finset.mem_univ, true_and, Finset.mem_image]
    constructor
    · intro hk
      refine ⟨k, ?_, rfl⟩
      rcases lt_trichotomy k i with q | q | q
      · exact q
      · subst q; rcases hk with q | ⟨-, q⟩ <;> exact absurd q (lt_irrefl _)
      · rcases places_ordered lt G h q with r | ⟨r, r'⟩ <;> rcases hk with s | ⟨s, s'⟩
        · omega
        · omega
        · omega
        · exact absurd r' (lt_asymm s')
    · rintro ⟨k', hk', e⟩
      obtain rfl := sortedFrom_injective lt e
      rcases places_ordered lt G h hk' with r | r
      · exact Or.inl r
      · exact Or.inr r
  rw [e, Finset.card_image_of_injective _ (sortedFrom_injective lt)]
  rw [Finset.filter_gt_eq_Iio, Fin.card_Iio]

/-- Among keys 0 and 1, a position of key 1 is placed before `c` exactly when fewer than `c` positions of key 1 precede it. -/
theorem placed_before_iff {n : ℕ} (lt : Fin n → Fin n → Bool) (M : Fin n → Prop) [DecidablePred M]
    (h : ∀ a b, lt a b = decide (M a ∧ ¬ M b)) (c : ℕ) (t : Fin n) (ht : M t) :
    (∃ i : Fin n, i.val < c ∧ sortedFrom lt i = t) ↔ (Finset.univ.filter fun a : Fin n => a < t ∧ M a).card < c := by
  have hG : ∀ a b, lt a b = decide ((if M b then 1 else 0) < (if M a then 1 else 0)) := fun a b => by
    rw [h]; by_cases ha : M a <;> by_cases hb : M b <;> simp [ha, hb]
  have key : ∀ i : Fin n, sortedFrom lt i = t → i.val = (Finset.univ.filter fun a : Fin n => a < t ∧ M a).card := by
    rintro i rfl
    rw [place_eq_count lt _ hG i]
    congr 1
    ext a
    simp only [Finset.mem_filter, Finset.mem_univ, true_and, if_pos ht]
    by_cases ha : M a <;> simp [ha]
  constructor
  · rintro ⟨i, hi, e⟩
    rw [← key i e]; exact hi
  · intro hc
    obtain ⟨i, e⟩ := sortedFrom_surjective lt t
    exact ⟨i, by rw [key i e]; exact hc, e⟩

end Cert.Moe
-- ==== Proof.Value.Spec.lean ====
/-
  The mixture's mathematics over the extended reals. A token's eight probabilities choose its first and second expert: greater
  probability first, and the lower expert among equals. The two are weighted by their shares of the two probabilities' sum. An expert
  serves a token that chose it when fewer than 1024 earlier tokens chose that expert.
-/
module

public import proofs.«01_k».proof.Proof.Value.Order
public import Idealize.ShloMosaic.PureOps.Ideal
public import Mathlib.Data.EReal.Inv
public import Mathlib.Algebra.BigOperators.Fin

@[expose] public section

noncomputable section

namespace Cert.Moe

open Idealize.ShloMosaic

/-- The experts from the most to the least probable, lower number first among equals. -/
def choice (p : Fin 8 → EReal) : Fin 8 → Fin 8 := sortedFrom fun a b => decide (p b < p a)

/-- The number of experts less probable than `k`: a number ordered as the probabilities are. -/
def below (p : Fin 8 → EReal) (k : Fin 8) : ℕ := (Finset.univ.filter fun j => p j < p k).card

/-- Counting the less probable experts orders the experts as their probabilities do. -/
theorem below_lt_iff (p : Fin 8 → EReal) (a b : Fin 8) : below p b < below p a ↔ p b < p a := by
  have mono : ∀ x y, p x ≤ p y → below p x ≤ below p y := fun x y h =>
    Finset.card_le_card fun j hj => by
      simp only [Finset.mem_filter, Finset.mem_univ, true_and] at hj ⊢
      exact lt_of_lt_of_le hj h
  constructor
  · intro h
    by_contra q
    exact absurd (mono a b (not_lt.mp q)) (not_le.mpr h)
  · intro h
    refine Finset.card_lt_card ⟨fun j hj => ?_, fun q => ?_⟩
    · simp only [Finset.mem_filter, Finset.mem_univ, true_and] at hj ⊢
      exact lt_trans hj h
    · have := q (show b ∈ _ by simpa using h)
      simp at this

/-- Of two places in the order of the experts, the earlier has the greater probability, or the same and the lower number. -/
theorem choice_ordered (p : Fin 8 → EReal) {i j : Fin 8} (hij : i < j) :
    p (choice p j) < p (choice p i) ∨ (p (choice p i) = p (choice p j) ∧ choice p i < choice p j) := by
  rcases places_ordered (fun a b => decide (p b < p a)) (below p) (fun a b => by simp [below_lt_iff]) hij with h | ⟨h, h'⟩
  · exact Or.inl ((below_lt_iff p _ _).mp h)
  · refine Or.inr ⟨le_antisymm ?_ ?_, h'⟩
    · by_contra q
      exact absurd ((below_lt_iff p _ _).mpr (not_le.mp q)) (by unfold choice; omega)
    · by_contra q
      exact absurd ((below_lt_iff p _ _).mpr (not_le.mp q)) (by unfold choice; omega)

/-- No expert stands at two places of the order. -/
theorem choice_injective (p : Fin 8 → EReal) : Function.Injective (choice p) := sortedFrom_injective _

/-- The most probable expert. -/
def first (p : Fin 8 → EReal) : Fin 8 := choice p 0

/-- The second most probable expert. -/
def second (p : Fin 8 → EReal) : Fin 8 := choice p 1

/-- The two chosen experts differ. -/
theorem first_ne_second (p : Fin 8 → EReal) : first p ≠ second p := fun h => by
  have := choice_injective p h
  exact absurd this (by decide)

/-- Every other expert is less probable than the first, or as probable and of a greater number. -/
theorem first_ahead (p : Fin 8 → EReal) (j : Fin 8) (h : j ≠ first p) : p j < p (first p) ∨ (p (first p) = p j ∧ first p < j) := by
  obtain ⟨k, rfl⟩ := sortedFrom_surjective (fun a b => decide (p b < p a)) j
  have hk : (0 : Fin 8) < k := by
    rcases Fin.pos_iff_ne_zero.mpr (fun e : k = 0 => h (by subst e; rfl)) with q
    exact q
  exact choice_ordered p hk

/-- Every expert but the two chosen is less probable than the second, or as probable and of a greater number. -/
theorem second_ahead (p : Fin 8 → EReal) (j : Fin 8) (h : j ≠ first p) (h' : j ≠ second p) :
    p j < p (second p) ∨ (p (second p) = p j ∧ second p < j) := by
  obtain ⟨k, rfl⟩ := sortedFrom_surjective (fun a b => decide (p b < p a)) j
  have hk0 : k ≠ 0 := fun e : k = 0 => h (by subst e; rfl)
  have hk1 : k ≠ 1 := fun e : k = 1 => h' (by subst e; rfl)
  have hk : (1 : Fin 8) < k := by omega
  exact choice_ordered p hk

/-- An expert that is ahead of every other is the first. -/
theorem eq_first (p : Fin 8 → EReal) (k : Fin 8) (h : ∀ j, j ≠ k → p j < p k ∨ (p k = p j ∧ k < j)) : k = first p := by
  by_contra hne
  rcases h (first p) (Ne.symm hne) with a | ⟨a, a'⟩ <;> rcases first_ahead p k hne with b | ⟨b, b'⟩
  · exact lt_asymm a b
  · rw [b] at a; exact lt_irrefl _ a
  · rw [a] at b; exact lt_irrefl _ b
  · exact lt_asymm a' b'

/-- An expert other than the first that is ahead of every other but the first is the second. -/
theorem eq_second (p : Fin 8 → EReal) (k : Fin 8) (hk : k ≠ first p)
    (h : ∀ j, j ≠ first p → j ≠ k → p j < p k ∨ (p k = p j ∧ k < j)) : k = second p := by
  by_contra hne
  rcases h (second p) (Ne.symm (first_ne_second p)) (Ne.symm hne) with a | ⟨a, a'⟩ <;> rcases second_ahead p k hk hne with b | ⟨b, b'⟩
  · exact lt_asymm a b
  · rw [b] at a; exact lt_irrefl _ a
  · rw [a] at b; exact lt_irrefl _ b
  · exact lt_asymm a' b'

/-- The share of the two chosen probabilities that belongs to expert `e`; zero for an expert not chosen. -/
def weight (p : Fin 8 → EReal) (e : Fin 8) : EReal :=
  if e = first p then Ideal.div (p (first p)) (p (first p) + p (second p))
  else if e = second p then Ideal.div (p (second p)) (p (first p) + p (second p)) else 0

/-- Whether a token with these probabilities chose expert `e`. -/
def member (p : Fin 8 → EReal) (e : Fin 8) : Prop := e = first p ∨ e = second p

instance (p : Fin 8 → EReal) (e : Fin 8) : Decidable (member p e) := inferInstanceAs (Decidable (_ ∨ _))

/-- The number of tokens before `t` that chose expert `e`. -/
def earlier (P : Fin 2048 → Fin 8 → EReal) (t : Fin 2048) (e : Fin 8) : ℕ :=
  (Finset.univ.filter fun s : Fin 2048 => s < t ∧ member (P s) e).card

/-- Whether expert `e` serves token `t`. -/
def served (P : Fin 2048 → Fin 8 → EReal) (t : Fin 2048) (e : Fin 8) : Prop := member (P t) e ∧ earlier P t e < 1024

instance (P : Fin 2048 → Fin 8 → EReal) (t : Fin 2048) (e : Fin 8) : Decidable (served P t e) := inferInstanceAs (Decidable (_ ∧ _))

/-- What expert `e`'s output for token `t` is multiplied by. -/
def share (P : Fin 2048 → Fin 8 → EReal) (t : Fin 2048) (e : Fin 8) : EReal := if served P t e then weight (P t) e else 0

/-- The gated unit: `g` times its logistic, times `u`. -/
def gated (g u : EReal) : EReal := Ideal.div g (1 + Ideal.exp (-g)) * u

/-- One token's row through an expert's gated unit and down projection, at output column `d`: `x` the row, `wg`, `wu` and `wd` the
    expert's matrices. -/
def expertRow (x : Fin 1024 → EReal) (wg wu : Fin 1024 → Fin 704 → EReal) (wd : Fin 704 → Fin 1024 → EReal) (d : Fin 1024) : EReal :=
  ∑ h : Fin 704, gated (∑ m : Fin 1024, x m * wg m h) (∑ m : Fin 1024, x m * wu m h) * wd h d

/-- The bit pattern of minus infinity. -/
theorem minus_infinity : Ideal.ofBits .f32 0xFF800000#32 = ⊥ := by simp [Ideal.ofBits, Ideal.ieee]

/-- The greatest of a token's eight logits. -/
def top (l : Fin 8 → EReal) : EReal := Finset.univ.fold max ⊥ l

/-- The softmax of a token's eight logits. -/
def softmax (l : Fin 8 → EReal) (e : Fin 8) : EReal :=
  Ideal.div (Ideal.exp (l e - top l)) (∑ k : Fin 8, Ideal.exp (l k - top l))

/-- The eight probabilities of every token: `x` the tokens' rows, `g` the router's matrix. -/
def probs (x : Fin 2048 → Fin 1024 → EReal) (g : Fin 1024 → Fin 8 → EReal) (t : Fin 2048) : Fin 8 → EReal :=
  softmax fun e => ∑ m : Fin 1024, x t m * g m e

/-- One output element: the sum over the experts, in order, of the expert's row times its share. -/
def output (P : Fin 2048 → Fin 8 → EReal) (row : Fin 8 → Fin 1024 → EReal) (t : Fin 2048) (d : Fin 1024) : ℕ → EReal
  | 0 => 0
  | n + 1 => output P row t d n + (if h : n < 8 then row ⟨n, h⟩ d * share P t ⟨n, h⟩ else 0)

end Cert.Moe
-- ==== Proof.Value.Finite.lean ====
/-
  What finite logits give: every probability is a positive real number, every weight a real number that is not negative, and a sum over
  the hidden columns may be weighted before or after it is taken.
-/
module

public import proofs.«01_k».proof.Proof.Value.Spec
public import Mathlib.Data.EReal.Operations

@[expose] public section

noncomputable section

namespace Cert.Moe

open Idealize.ShloMosaic

/-- A sum of products of real numbers is a real number. -/
theorem sum_real {n : ℕ} (a b : Fin n → EReal) (ha : ∀ m, ∃ r : ℝ, a m = r) (hb : ∀ m, ∃ r : ℝ, b m = r) :
    ∃ r : ℝ, ∑ m, a m * b m = r := by
  choose a' ha using ha
  choose b' hb using hb
  refine Finset.sum_induction (fun m => a m * b m) (fun x => ∃ r : ℝ, x = r) ?_ ⟨0, rfl⟩ fun m _ => ⟨a' m * b' m, ?_⟩
  · rintro _ _ ⟨x, rfl⟩ ⟨y, rfl⟩
    exact ⟨x + y, (EReal.coe_add x y).symm⟩
  · simp only [ha, hb, EReal.coe_mul]

/-- A sum of positive real numbers over a nonempty index is a positive real number. -/
theorem sum_pos_real (f : Fin 8 → EReal) (hf : ∀ k, ∃ r : ℝ, 0 < r ∧ f k = r) : ∃ r : ℝ, 0 < r ∧ ∑ k, f k = r := by
  refine Finset.sum_induction_nonempty f (fun x => ∃ r : ℝ, 0 < r ∧ x = r) ?_ ⟨0, Finset.mem_univ _⟩ fun k _ => hf k
  rintro _ _ ⟨x, hx, rfl⟩ ⟨y, hy, rfl⟩
  exact ⟨x + y, add_pos hx hy, (EReal.coe_add x y).symm⟩

/-- A quotient of a nonnegative real number by a positive one. -/
theorem div_real {x y : ℝ} (hy : 0 < y) : Ideal.div (x : EReal) (y : EReal) = ((x * y⁻¹ : ℝ) : EReal) := by
  unfold Ideal.div
  rw [if_neg (by exact_mod_cast hy.ne'), ← EReal.coe_inv, ← EReal.coe_mul]

/-- The greatest logit is one of them. -/
theorem top_mem (l : Fin 8 → EReal) : ∃ k, top l = l k := by
  obtain ⟨k, -, hk⟩ := Finset.exists_max_image Finset.univ l ⟨0, Finset.mem_univ _⟩
  refine ⟨k, le_antisymm ?_ ?_⟩
  · exact Finset.fold_max_le _ |>.mpr ⟨bot_le, hk⟩
  · exact Finset.le_fold_max _ |>.mpr (Or.inr ⟨k, Finset.mem_univ _, le_rfl⟩)

/-- No logit exceeds the greatest. -/
theorem le_top' (l : Fin 8 → EReal) (k : Fin 8) : l k ≤ top l :=
  Finset.le_fold_max _ |>.mpr (Or.inr ⟨k, Finset.mem_univ _, le_rfl⟩)

/-- With finite logits every probability is a positive real number. -/
theorem softmax_real (l : Fin 8 → EReal) (hl : ∀ k, ∃ r : ℝ, l k = r) (e : Fin 8) : ∃ r : ℝ, 0 < r ∧ softmax l e = r := by
  obtain ⟨k, hk⟩ := top_mem l
  choose l' hl using hl
  have hexp : ∀ j, ∃ r : ℝ, 0 < r ∧ Ideal.exp (l j - top l) = r := fun j =>
    ⟨Real.exp (l' j - l' k), Real.exp_pos _, by rw [hk, hl j, hl k, ← EReal.coe_sub, Ideal.exp_coe]⟩
  obtain ⟨s, hs, es⟩ := sum_pos_real _ hexp
  obtain ⟨x, hx, ex⟩ := hexp e
  exact ⟨x * s⁻¹, mul_pos hx (inv_pos.mpr hs), by rw [softmax, es, ex, div_real hs]⟩

/-- With positive real probabilities every weight is a real number that is not negative. -/
theorem weight_real (p : Fin 8 → EReal) (hp : ∀ k, ∃ r : ℝ, 0 < r ∧ p k = r) (e : Fin 8) : ∃ r : ℝ, 0 ≤ r ∧ weight p e = r := by
  obtain ⟨a, ha, ea⟩ := hp (first p)
  obtain ⟨b, hb, eb⟩ := hp (second p)
  unfold weight
  rw [ea, eb, ← EReal.coe_add, div_real (add_pos ha hb), div_real (add_pos ha hb)]
  have hab := inv_pos.mpr (add_pos ha hb)
  split
  · exact ⟨_, (mul_pos ha hab).le, rfl⟩
  · split
    · exact ⟨_, (mul_pos hb hab).le, rfl⟩
    · exact ⟨0, le_rfl, rfl⟩

/-- A share of positive probabilities is a number, and not negative. -/
theorem share_real (P : Fin 2048 → Fin 8 → EReal) (hP : ∀ t k, ∃ r : ℝ, 0 < r ∧ P t k = r) (t : Fin 2048) (e : Fin 8) :
    ∃ r : ℝ, 0 ≤ r ∧ share P t e = r := by
  unfold share
  split
  · exact weight_real _ (hP t) e
  · exact ⟨0, le_rfl, rfl⟩

/-- A weight that is a real number and not negative may be applied to every term of a sum or to the sum. -/
theorem sum_weighted {n : ℕ} (f d : Fin n → EReal) (w : EReal) (hw : ∃ r : ℝ, 0 ≤ r ∧ w = r) :
    ∑ h, f h * w * d h = (∑ h, f h * d h) * w := by
  obtain ⟨r, hr, rfl⟩ := hw
  have h0 : (0 : EReal) ≤ (r : EReal) := by exact_mod_cast hr
  rw [mul_comm _ (r : EReal)]
  induction n with
  | zero => simp
  | succ n ih =>
    rw [Fin.sum_univ_castSucc, Fin.sum_univ_castSucc, ih, EReal.left_distrib_of_nonneg_of_ne_top h0 (EReal.coe_ne_top r)]
    congr 1
    rw [mul_comm (f _) (r : EReal), mul_assoc]

end Cert.Moe
-- ==== Proof.Value.Precondition.lean ====
/-
  The precondition, read: the tokens and the router's matrix hold real numbers.
-/
module

public import proofs.«01_k».proof.Pre_router_finite
public import proofs.«01_k».proof.Proof.Value.Finite
public import Idealize.ShloMosaic.Lib.Pointwise
public import Idealize.ShloMosaic.Lib.WordCmp

@[expose] public section

noncomputable section

namespace Cert.Moe

open Idealize.ShloMosaic Cert.Pre_router_finite

/-- The shape relations the precondition states. -/
theorem finite_facts : Cert.Pre_router_finite.Facts := ⟨by decide, by decide⟩

/-- The bit pattern of plus infinity. -/
theorem plus_infinity : Ideal.ofBits .f32 0x7F800000#32 = ⊤ := by simp [Ideal.ofBits, Ideal.ieee]

/-- A number whose absolute value is below plus infinity is a real number. -/
theorem real_of_abs (x : EReal) (h : max x (-x) < ⊤) : ∃ r : ℝ, x = r := by
  induction x with
  | bot => simp at h
  | top => simp at h
  | coe r => exact ⟨r, rfl⟩

variable [Cert.Pre_router_finite.Facts] (x : FVec Ideal S2048x1x1024 .f32) (g : FVec Ideal S1024x8 .f32)
  (a b : FVec Ideal S8x1024x704 .f32) (d : FVec Ideal S8x704x1024 .f32)

/-- A comparison of an absolute value with plus infinity that came out one says that the number is real. -/
theorem real_of_flag (x : EReal) (h : BitVec.ofBool (decide (max x (-x) < Ideal.ofBits FTy.f32 0x7F800000#32)) = 1#1) :
    ∃ r : ℝ, x = r := by
  have q := (WordCmp.ofBool_decide_eq_one_iff _).mp h
  rw [plus_infinity] at q
  exact real_of_abs x q

/-- Every entry of a token is a real number. -/
theorem tokens_real (h : (fn (F := Ideal) x g a b d).1 = fun _ => 1#1) (t : Fin 2048) (m : Fin 1024) : ∃ r : ℝ, x (ix3 t 0 m) = r := by
  have q := congrFun h (ix3 t 0 m)
  unfold fn at q
  pointwise at q
  exact real_of_flag _ q

/-- Every entry of the router's matrix is a real number. -/
theorem gate_real (h : (fn (F := Ideal) x g a b d).2 = fun _ => 1#1) (m : Fin 1024) (e : Fin 8) : ∃ r : ℝ, g (ix2 m e) = r := by
  have q := congrFun h (ix2 m e)
  unfold fn at q
  pointwise at q
  exact real_of_flag _ q

end Cert.Moe
-- ==== Proof.KernelIdeal.Choose.lean ====
/-
  The kernel's router over the extended reals: the softmax of the logits, the lane it marks as a token's first expert and the lane it
  marks as the second, and the weights it gives the two.
-/
module

public import proofs.«01_k».proof.Proof.Value.Finite
public import proofs.«01_k».proof.Proof.KernelIdeal.RouterBody
public import Idealize.ShloMosaic.Lib.Pointwise
public import Idealize.ShloMosaic.Lib.WordCmp

@[expose] public section

set_option maxRecDepth 16384

noncomputable section

namespace Cert.KernelIdeal.Moe

open Cert.KernelIdeal Cert.KernelIdeal.Gen Idealize.ShloMosaic Idealize.ShloMosaic.TcCoe Cert.Moe

/-! ## The lowest lane holding a row's greatest entry -/

/-- The lanes of a table that are their row's lowest with the row's greatest entry `m`, as the kernel marks them. -/
def leads (p : FVec Ideal S2048x8 .f32) (m : FVec Ideal S2048x1 .f32) : IVec S2048x8 1 :=
  cmpi .eq (iota .tc S2048x8 32 [1] iota_S2048x8_d1_w32)
    (broadcastTo S2048x8 (shapeCast S2048x1 (multiReductionI .minsi [1] S2048
      (select (cmpf .oeq p (broadcastTo S2048x8 m broadcasts_S2048x1_S2048x8)) (iota .tc S2048x8 32 [1] iota_S2048x8_d1_w32)
        (broadcast S2048x8 8#32)) 2147483647#32 reduces_S2048x8_S2048 rfl) shapeCasts_S2048_S2048x1) broadcasts_S2048x1_S2048x8)

/-- Every row's greatest entry. -/
def greatest (p : FVec Ideal S2048x8 .f32) : FVec Ideal S2048x1 .f32 :=
  shapeCast S2048x1 (multiReduction .maximumf [1] S2048 p 0xFF800000#32 reduces_S2048x8_S2048 (.inl rfl) rfl) shapeCasts_S2048_S2048x1

/-- That column holds the greatest entry of each row. -/
theorem greatest_at (p : FVec Ideal S2048x8 .f32) (t : Fin 2048) : greatest p (ix2 t 0) = top fun e => p (ix2 t e) := by
  unfold top
  pointwise [greatest]
  simp only [show Ideal.ofBits FTy.f32 4286578688#32 = ⊥ from minus_infinity]

/-- The smaller of two words read as signed numbers. -/
theorem toInt_minsi (x y : BitVec 32) : (IntOp.minsi x y).toInt = min x.toInt y.toInt := by
  unfold IntOp.minsi
  split <;> rename_i h <;> simp only [BitVec.slt, decide_eq_true_eq] at h <;> omega

/-- The least lane number of the lanes that satisfy `q`, with 8 for the others, names lane `e` when `e` is the first to satisfy `q`. -/
theorem least_lane (q : Fin 8 → Prop) [DecidablePred q] (e : Fin 8) :
    BitVec.ofNat 32 e.val = Finset.univ.fold IntOp.minsi 2147483647#32 (fun j : Fin 8 => if q j then BitVec.ofNat 32 j.val else 8#32)
      ↔ q e ∧ ∀ j, q j → e ≤ j := by
  have small : ∀ j : Fin 8, (BitVec.ofNat 32 j.val).toInt = (j.val : ℤ) := by decide
  have h := Finset.fold_hom (s := Finset.univ) (op := IntOp.minsi) (op' := min) (m := BitVec.toInt) (b := 2147483647#32)
    (f := fun j : Fin 8 => if q j then BitVec.ofNat 32 j.val else 8#32) toInt_minsi
  rw [← BitVec.toInt_inj, ← h, small]
  have value : ∀ j : Fin 8, (if q j then BitVec.ofNat 32 j.val else 8#32).toInt = if q j then (j.val : ℤ) else 8 := fun j => by
    split
    · exact small j
    · rfl
  simp only [value, show (2147483647#32 : BitVec 32).toInt = 2147483647 from rfl]
  constructor
  · intro hf
    obtain ⟨-, lo⟩ := (Finset.le_fold_min _).mp hf.le
    rcases (Finset.fold_min_le _).mp hf.ge with hb | ⟨k, -, hk⟩
    · omega
    · have hle : ∀ j, q j → e ≤ j := fun j hj => by
        have := lo j (Finset.mem_univ j)
        rw [if_pos hj] at this
        exact_mod_cast this
      by_cases qk : q k
      · rw [if_pos qk] at hk
        have : k = e := le_antisymm (by exact_mod_cast hk) (hle k qk)
        exact ⟨this ▸ qk, hle⟩
      · rw [if_neg qk] at hk
        omega
  · rintro ⟨he, hle⟩
    refine le_antisymm ((Finset.le_fold_min _).mpr ⟨by omega, fun j _ => ?_⟩)
      ((Finset.fold_min_le _).mpr (Or.inr ⟨e, Finset.mem_univ e, by rw [if_pos he]⟩))
    by_cases qj : q j
    · rw [if_pos qj]
      exact_mod_cast hle j qj
    · rw [if_neg qj]
      omega

/-- The marked lane is the one ahead of every other: greater, or equal and lower in number. -/
theorem leads_at (p : FVec Ideal S2048x8 .f32) (t : Fin 2048) (e : Fin 8) :
    leads p (greatest p) (ix2 t e) = 1#1 ↔ ∀ j, j ≠ e → p (ix2 t j) < p (ix2 t e) ∨ (p (ix2 t e) = p (ix2 t j) ∧ e < j) := by
  have word : leads p (greatest p) (ix2 t e) = 1#1
      ↔ p (ix2 t e) = greatest p (ix2 t 0) ∧ ∀ j : Fin 8, p (ix2 t j) = greatest p (ix2 t 0) → e ≤ j := by
    generalize greatest p = m
    refine Iff.trans ?_ (least_lane (fun j => p (ix2 t j) = m (ix2 t 0)) e)
    refine Iff.trans ?_ (WordCmp.ofBool_decide_eq_one_iff _)
    rw [← WordCmp.cmpi_eq_eq]
    pointwise [leads]
  rw [word, greatest_at]
  have up : ∀ j, p (ix2 t j) ≤ top fun e => p (ix2 t e) := le_top' fun e => p (ix2 t e)
  constructor
  · rintro ⟨he, hle⟩ j hj
    rw [he]
    rcases (up j).lt_or_eq with h | h
    · exact Or.inl h
    · exact Or.inr ⟨h.symm, lt_of_le_of_ne (hle j h) (Ne.symm hj)⟩
  · intro h
    obtain ⟨k, hk⟩ := top_mem fun e => p (ix2 t e)
    have he : p (ix2 t e) = top fun e => p (ix2 t e) := by
      refine le_antisymm (up e) ?_
      rw [hk]
      by_cases hke : k = e
      · rw [hke]
      · rcases h k hke with a | ⟨a, -⟩
        · exact a.le
        · exact a.ge
    refine ⟨he, fun j hj => ?_⟩
    by_cases hje : j = e
    · exact hje.ge
    · rcases h j hje with a | ⟨-, a⟩
      · rw [hj, ← he] at a
        exact absurd a (lt_irrefl _)
      · exact a.le

/-! ## The two marked lanes -/

/-- The kernel's table of probabilities is the softmax of the logits. -/
theorem chances_at (x : FVec Ideal S2048x1x1024 .f32) (g : FVec Ideal S1024x8 .f32) (t : Fin 2048) (e : Fin 8) :
    k0_pay1 (F := Ideal) x g (ix2 t e) = probs (fun t m => x (ix3 t 0 m)) (fun m e => g (ix2 m e)) t e := by
  unfold probs softmax top
  pointwise [k0_pay1, dot_S2048x1024_S1024x8_S2048x8_1_0_0_1_n_n]
  simp only [show Ideal.ofBits FTy.f32 4286578688#32 = ⊥ from minus_infinity]

variable (x : FVec Ideal S2048x1x1024 .f32) (g : FVec Ideal S1024x8 .f32)

/-- The probabilities of every token, as the kernel reads the tokens and the router's matrix. -/
def chances (t : Fin 2048) : Fin 8 → EReal := probs (fun t m => x (ix3 t 0 m)) (fun m e => g (ix2 m e)) t

/-- The kernel marks a token's first expert. -/
theorem mark_first (t : Fin 2048) (e : Fin 8) : k0_pay3 (F := Ideal) x g (ix2 t e) = 1#1 ↔ e = first (chances x g t) := by
  refine (leads_at (k0_pay1 (F := Ideal) x g) t e).trans ?_
  simp only [chances_at]
  exact ⟨eq_first _ e, fun h j hj => by subst h; exact first_ahead _ j hj⟩

/-- The greatest probability is the first expert's. -/
theorem greatest_first (t : Fin 2048) : k0_pay2 (F := Ideal) x g (ix2 t 0) = chances x g t (first (chances x g t)) := by
  refine (greatest_at (k0_pay1 (F := Ideal) x g) t).trans ?_
  simp only [chances_at]
  obtain ⟨k, hk⟩ := top_mem (chances x g t)
  refine le_antisymm ?_ (le_top' (chances x g t) _)
  show top (chances x g t) ≤ _
  rw [hk]
  by_cases h : k = first (chances x g t)
  · rw [h]
  · rcases first_ahead _ k h with a | ⟨a, -⟩
    · exact a.le
    · exact a.ge

/-- The probabilities with the first expert's replaced by minus one. -/
theorem masked_at (t : Fin 2048) (e : Fin 8) :
    k0_pay4 (F := Ideal) x g (ix2 t e) = if e = first (chances x g t) then ((-1 : ℝ) : EReal) else chances x g t e := by
  have h : k0_pay4 (F := Ideal) x g (ix2 t e)
      = if k0_pay3 (F := Ideal) x g (ix2 t e) = 1#1 then Ideal.ofBits .f32 0xBF800000#32 else k0_pay1 (F := Ideal) x g (ix2 t e) := by
    unfold k0_pay4
    generalize k0_pay3 (F := Ideal) x g = a
    generalize k0_pay1 (F := Ideal) x g = b
    pointwise
    rfl
  rw [h, chances_at]
  have c : Ideal.ofBits .f32 0xBF800000#32 = ((-1 : ℝ) : EReal) := by
    simp [Ideal.ofBits, Ideal.ieee]
    rw [← EReal.coe_mul]
    norm_num
  by_cases q : e = first (chances x g t)
  · rw [if_pos ((mark_first x g t e).mpr q), if_pos q, c]
  · rw [if_neg (fun a => q ((mark_first x g t e).mp a)), if_neg q]
    rfl

/-- With positive probabilities, the greatest of the masked ones is the second expert's, and the second expert's lane is marked. -/
theorem masked_ahead (hp : ∀ t k, ∃ r : ℝ, 0 < r ∧ chances x g t k = r) (t : Fin 2048) (e : Fin 8) :
    (∀ j, j ≠ e → k0_pay4 (F := Ideal) x g (ix2 t j) < k0_pay4 (F := Ideal) x g (ix2 t e)
        ∨ (k0_pay4 (F := Ideal) x g (ix2 t e) = k0_pay4 (F := Ideal) x g (ix2 t j) ∧ e < j))
      ↔ e = second (chances x g t) := by
  have low : ∀ k, ((-1 : ℝ) : EReal) < chances x g t k := fun k => by
    obtain ⟨r, hr, er⟩ := hp t k
    rw [er]
    exact_mod_cast lt_trans (by norm_num : (-1 : ℝ) < 0) hr
  simp only [masked_at]
  constructor
  · intro h
    by_cases he : e = first (chances x g t)
    · exfalso
      rcases h (second (chances x g t)) (fun q => first_ne_second _ (he ▸ q.symm)) with a | ⟨a, -⟩
      · rw [if_pos he, if_neg (Ne.symm (first_ne_second _))] at a
        exact lt_asymm a (low _)
      · rw [if_pos he, if_neg (Ne.symm (first_ne_second _))] at a
        exact (low _).ne a
    · refine eq_second _ e he fun j hj hje => ?_
      have := h j hje
      rwa [if_neg hj, if_neg he] at this
  · rintro rfl j hj
    rw [if_neg (Ne.symm (first_ne_second _))]
    by_cases hf : j = first (chances x g t)
    · rw [if_pos hf]
      exact Or.inl (low _)
    · rw [if_neg hf]
      exact second_ahead _ j hf hj

/-- The second mark stands at the second expert. -/
theorem mark_second (hp : ∀ t k, ∃ r : ℝ, 0 < r ∧ chances x g t k = r) (t : Fin 2048) (e : Fin 8) :
    k0_pay6 (F := Ideal) x g (ix2 t e) = 1#1 ↔ e = second (chances x g t) :=
  (leads_at (k0_pay4 (F := Ideal) x g) t e).trans (masked_ahead x g hp t e)

/-- The greatest entry left is the second probability. -/
theorem greatest_second (hp : ∀ t k, ∃ r : ℝ, 0 < r ∧ chances x g t k = r) (t : Fin 2048) :
    k0_pay5 (F := Ideal) x g (ix2 t 0) = chances x g t (second (chances x g t)) := by
  refine (greatest_at (k0_pay4 (F := Ideal) x g) t).trans ?_
  have h := (masked_ahead x g hp t _).mpr rfl
  have v := masked_at x g t (second (chances x g t))
  rw [if_neg (Ne.symm (first_ne_second _))] at v
  rw [← v]
  obtain ⟨k, hk⟩ := top_mem fun e => k0_pay4 (F := Ideal) x g (ix2 t e)
  refine le_antisymm ?_ (le_top' (fun e => k0_pay4 (F := Ideal) x g (ix2 t e)) _)
  rw [hk]
  by_cases q : k = second (chances x g t)
  · rw [q]
  · rcases h k q with a | ⟨a, -⟩
    · exact a.le
    · exact a.ge

/-! ## The weights and the members -/

/-- The weights the kernel computes are the weights of the two chosen experts. -/
theorem rawWeights_at (hp : ∀ t k, ∃ r : ℝ, 0 < r ∧ chances x g t k = r) (t : Fin 2048) (e : Fin 8) :
    rawWeights (F := Ideal) x g (ix2 t e) = weight (chances x g t) e := by
  have h : rawWeights (F := Ideal) x g (ix2 t e)
      = Ideal.div ((if k0_pay3 (F := Ideal) x g (ix2 t e) = 1#1 then k0_pay2 (F := Ideal) x g (ix2 t 0) else 0)
          + (if k0_pay6 (F := Ideal) x g (ix2 t e) = 1#1 then k0_pay5 (F := Ideal) x g (ix2 t 0) else 0))
        (k0_pay2 (F := Ideal) x g (ix2 t 0) + k0_pay5 (F := Ideal) x g (ix2 t 0)) := by
    unfold rawWeights k0_pay7 k0_pay8 k0_pay9 k0_pay10
    generalize k0_pay3 (F := Ideal) x g = a
    generalize k0_pay2 (F := Ideal) x g = b
    generalize k0_pay5 (F := Ideal) x g = c
    generalize k0_pay6 (F := Ideal) x g = d
    pointwise
    rfl
  rw [h, greatest_first, greatest_second x g hp]
  have i1 := mark_first x g t e
  have i2 := mark_second x g hp t e
  obtain ⟨a, ha, ea⟩ := hp t (first (chances x g t))
  obtain ⟨b, hb, eb⟩ := hp t (second (chances x g t))
  unfold weight
  by_cases q1 : e = first (chances x g t)
  · have q2 : ¬ e = second (chances x g t) := fun q => first_ne_second _ (q1 ▸ q)
    rw [if_pos (i1.mpr q1), if_neg (fun a => q2 (i2.mp a)), if_pos q1, add_zero]
  · rw [if_neg (fun a => q1 (i1.mp a)), if_neg q1]
    by_cases q2 : e = second (chances x g t)
    · rw [if_pos (i2.mpr q2), if_pos q2, zero_add]
    · rw [if_neg (fun a => q2 (i2.mp a)), if_neg q2, add_zero, ea, eb, ← EReal.coe_add, ← EReal.coe_zero, div_real (add_pos ha hb), zero_mul]

/-- A flag widened to a word and read as a number. -/
theorem flag_value (b : BitVec 1) :
    FloatOps.sitofp (F := Ideal) .f32 (BitVec.setWidth 32 b) = if b = 1#1 then (1 : EReal) else 0 := by
  show (((BitVec.setWidth 32 b).toInt : ℝ) : EReal) = _
  have : ∀ b : BitVec 1, (BitVec.setWidth 32 b).toInt = if b = 1#1 then 1 else 0 := by decide
  rw [this]
  split <;> simp

/-- The kernel's table of members: one where the token chose the expert, zero elsewhere. -/
theorem chosen_at (hp : ∀ t k, ∃ r : ℝ, 0 < r ∧ chances x g t k = r) (t : Fin 2048) (e : Fin 8) :
    chosen (F := Ideal) x g (ix2 t e) = if member (chances x g t) e then 1 else 0 := by
  have h : ∀ a b : IVec S2048x8 1, k0_pay11 (F := Ideal) a b (ix2 t e) = if a (ix2 t e) = 1#1 ∨ b (ix2 t e) = 1#1 then 1 else 0 := by
    intro a b
    pointwise [k0_pay11]
    generalize a (ix2 t e) = u
    generalize b (ix2 t e) = v
    rw [flag_value]
    have : ∀ u v : BitVec 1, IntOp.ori u v = 1#1 ↔ u = 1#1 ∨ v = 1#1 := by decide
    simp only [this]
  unfold chosen
  rw [h]
  by_cases q : member (chances x g t) e
  · rw [if_pos q, if_pos]
    exact q.imp (mark_first x g t e).mpr (mark_second x g hp t e).mpr
  · rw [if_neg q, if_neg]
    exact fun a => q (a.imp (mark_first x g t e).mp (mark_second x g hp t e).mp)

end Cert.KernelIdeal.Moe
-- ==== Proof.KernelIdeal.Kept.lean ====
/-
  The kernel's capacity over the extended reals: the members met before a token, counted chunk by chunk, and the weights that are kept.
-/
module

public import proofs.«01_k».proof.Proof.KernelIdeal.Choose
public import Idealize.ShloMosaic.Lib.Pipeline.ValueKit
public import Idealize.ShloMosaic.Lib.StableHlo.Predicate

@[expose] public section

set_option maxRecDepth 16384

noncomputable section

namespace Cert.KernelIdeal.Moe

open Cert.KernelIdeal Cert.KernelIdeal.Gen Idealize.ShloMosaic Idealize.ShloMosaic.TcCoe Cert.Moe

/-! ## Counting members -/

/-- One for a token below 2048 that satisfies `M`, zero for any other number. -/
def tick (M : Fin 2048 → Prop) [DecidablePred M] (s : ℕ) : ℕ := if h : s < 2048 then (if M ⟨s, h⟩ then 1 else 0) else 0

/-- The tokens before number `n` that satisfy `M`. -/
def tally (M : Fin 2048 → Prop) [DecidablePred M] (n : ℕ) : ℕ := ∑ s ∈ Finset.range n, tick M s

/-- A tick at a token is one or zero as the token is counted or not. -/
theorem tick_of_lt (M : Fin 2048 → Prop) [DecidablePred M] (s : ℕ) (h : s < 2048) : tick M s = if M ⟨s, h⟩ then 1 else 0 := dif_pos h

/-- The tokens before a token, counted. -/
theorem tally_eq (M : Fin 2048 → Prop) [DecidablePred M] (t : Fin 2048) :
    (Finset.univ.filter fun s : Fin 2048 => s < t ∧ M s).card = tally M t.val := by
  have h : tally M t.val = ∑ s ∈ Finset.range 2048, if s < t.val then tick M s else 0 := by
    unfold tally
    rw [← Finset.sum_filter]
    refine Finset.sum_congr ?_ fun _ _ => rfl
    ext s
    simp only [Finset.mem_range, Finset.mem_filter]
    have := t.isLt
    omega
  rw [h, Finset.sum_range, Finset.card_filter]
  refine Finset.sum_congr rfl fun s _ => ?_
  rw [tick_of_lt M s.val s.isLt]
  by_cases a : s < t
  · simp only [a, true_and, if_pos (show s.val < t.val from a)]
  · simp only [a, false_and, if_neg (show ¬ s.val < t.val from a), if_false]

/-- Counting on past number `n`. -/
theorem tally_add (M : Fin 2048 → Prop) [DecidablePred M] (n k : ℕ) :
    tally M (n + k) = tally M n + ∑ i ∈ Finset.range k, tick M (n + i) := Finset.sum_range_add _ _ _

/-- The bit pattern of 1024. -/
theorem capacity : Ideal.ofBits .f32 0x44800000#32 = ((1024 : ℕ) : EReal) := by
  simp [Ideal.ofBits, Ideal.ieee]
  rw [← EReal.coe_mul]
  norm_num
  rfl

/-! ## A chunk -/

/-- Row `r` of chunk `j` is row `256 j + r` of the table. -/
theorem rowsOf_at (tbl : FVec Ideal S2048x8 .f32) (j : ℕ) (hj : j < 8) (r : Fin 256) (e : Fin 8) :
    rowsOf tbl j hj (ix2 r e) = tbl (ix2 (⟨256 * j + r.val, by omega⟩ : Fin 2048) e) := by
  pointwise [rowsOf]

/-- The count of a chunk is the sum down each column. -/
theorem countRows_at (s : FVec Ideal S256x8 .f32) (e : Fin 8) : countRows s (ix2 0 e) = ∑ r : Fin 256, s (ix2 r e) := by
  pointwise [countRows]

/-- The strictly lower triangular matrix of ones. -/
theorem before_at (r k : Fin 256) : k0_pay12 (F := Ideal) (ix2 r k) = if k < r then 1 else 0 := by
  have h : k0_pay12 (F := Ideal) (ix2 r k)
      = FloatOps.sitofp (F := Ideal) .f32 (BitVec.setWidth 32 (IntOp.cmpi .sgt (BitVec.ofNat 32 r.val) (BitVec.ofNat 32 k.val))) := by
    pointwise [k0_pay12]
  have small : ∀ q : Fin 256, (BitVec.ofNat 32 q.val).toInt = (q.val : ℤ) := fun q =>
    StableHlo.Predicate.toInt_ofNat_small _ (by have := q.isLt; omega)
  have c : IntOp.cmpi .sgt (BitVec.ofNat 32 r.val) (BitVec.ofNat 32 k.val) = 1#1 ↔ k < r := by
    simp only [IntOp.cmpi, BitVec.slt, small, WordCmp.ofBool_decide_eq_one_iff]
    exact ⟨fun q => by exact_mod_cast q, fun q => by exact_mod_cast q⟩
  rw [h, flag_value]
  simp only [c]

section

variable (mem wts : FVec Ideal S2048x8 .f32) (j : ℕ) (hj : j < 8) (r : Fin 256) (e : Fin 8)

/-- A kept weight, spelt out: the weight, times membership, times whether fewer than 1024 members came before. -/
theorem kept_form :
    keptRows wts mem j hj (ix2 r e)
      = wts (ix2 (⟨256 * j + r.val, by omega⟩ : Fin 2048) e) * mem (ix2 (⟨256 * j + r.val, by omega⟩ : Fin 2048) e)
        * (if (∑ k : Fin 256, k0_pay12 (F := Ideal) (ix2 r k) * mem (ix2 (⟨256 * j + k.val, by omega⟩ : Fin 2048) e))
            + metBefore mem j (Nat.le_of_lt hj) (ix2 0 e) < Ideal.ofBits .f32 0x44800000#32 then 1 else 0) := by
  unfold keptRows
  simp only [← rowsOf_at mem j hj, ← rowsOf_at wts j hj]
  generalize rowsOf mem j hj = a
  generalize rowsOf wts j hj = b
  generalize metBefore mem j _ = c
  generalize k0_pay12 (F := Ideal) = d
  pointwise [dot_S256x256_S256x8_S256x8_1_0_0_1_n_n]
  rw [flag_value]
  simp only [WordCmp.ofBool_decide_eq_one_iff]

/-! ## The members before a token -/

variable (M : Fin 2048 → Prop) [DecidablePred M]

/-- A sum of counted terms. -/
theorem sum_count {n : ℕ} (f : Fin n → ℕ) : ∑ k, ((f k : ℕ) : EReal) = ((∑ k, f k : ℕ) : EReal) := (Nat.cast_sum _ _).symm

/-- The members before chunk `j`. -/
theorem metBefore_at (hm : ∀ t, mem (ix2 t e) = if M t then 1 else 0) :
    ∀ (j : ℕ) (h : j ≤ 8), metBefore mem j h (ix2 0 e) = ((tally M (256 * j) : ℕ) : EReal)
  | 0, _ => by
    have z : k0_pay13 (F := Ideal) (ix2 0 e) = 0 := by
      pointwise [k0_pay13]
    exact z.trans (by simp [tally])
  | j + 1, h => by
    have step : metBefore mem (j + 1) h (ix2 0 e)
        = metBefore mem j (Nat.le_of_succ_le h) (ix2 0 e) + countRows (rowsOf mem j h) (ix2 0 e) := rfl
    have hc : countRows (rowsOf mem j h) (ix2 0 e) = ((∑ i ∈ Finset.range 256, tick M (256 * j + i) : ℕ) : EReal) := by
      rw [countRows_at, Finset.sum_range, ← sum_count]
      refine Finset.sum_congr rfl fun r _ => ?_
      rw [rowsOf_at, hm, tick_of_lt M _ (by omega)]
      split <;> simp
    rw [step, metBefore_at hm j, hc, ← Nat.cast_add, ← tally_add]
    rfl

/-- The members of a chunk before its row `r`. -/
theorem within_at (hm : ∀ t, mem (ix2 t e) = if M t then 1 else 0) :
    ∑ k : Fin 256, k0_pay12 (F := Ideal) (ix2 r k) * mem (ix2 (⟨256 * j + k.val, by omega⟩ : Fin 2048) e)
      = ((∑ i ∈ Finset.range r.val, tick M (256 * j + i) : ℕ) : EReal) := by
  have h : ∑ i ∈ Finset.range r.val, tick M (256 * j + i)
      = ∑ i ∈ Finset.range 256, if i < r.val then tick M (256 * j + i) else 0 := by
    rw [← Finset.sum_filter]
    refine Finset.sum_congr ?_ fun _ _ => rfl
    ext i
    simp only [Finset.mem_range, Finset.mem_filter]
    have := r.isLt
    omega
  rw [h, Finset.sum_range, ← sum_count]
  refine Finset.sum_congr rfl fun k _ => ?_
  rw [before_at, hm, tick_of_lt M _ (by omega)]
  by_cases q : k < r
  · rw [if_pos q, if_pos (show k.val < r.val from q), one_mul]
    split <;> simp
  · rw [if_neg q, if_neg (show ¬ k.val < r.val from q), zero_mul, Nat.cast_zero]

/-- The weight that is kept: a member's, when fewer than 1024 members come before it. -/
theorem kept_at (hm : ∀ t, mem (ix2 t e) = if M t then 1 else 0) (t : Fin 2048) (ht : t.val = 256 * j + r.val) :
    keptRows wts mem j hj (ix2 r e)
      = if M t ∧ (Finset.univ.filter fun s : Fin 2048 => s < t ∧ M s).card < 1024 then wts (ix2 t e) else 0 := by
  obtain ⟨n, hn⟩ := t
  obtain rfl : n = 256 * j + r.val := ht
  rw [kept_form, within_at mem j hj r e M hm, metBefore_at mem e M hm, ← Nat.cast_add, add_comm (∑ i ∈ Finset.range r.val, tick M (256 * j + i)) _, ← tally_add, capacity, hm, tally_eq]
  simp only [EReal.natCast_lt_iff]
  by_cases a : M ⟨256 * j + r.val, by omega⟩
  · by_cases b : tally M (256 * j + r.val) < 1024
    · rw [if_pos a, if_pos b, if_pos ⟨a, b⟩, mul_one, mul_one]
    · rw [if_neg b, mul_zero, if_neg (fun q => b q.2)]
  · rw [if_neg a, mul_zero, zero_mul, if_neg (fun q => a q.1)]

end

/-! ## The block of weights -/

/-- A chunk of the kernel's weights holds the tokens' shares. -/
theorem tile_at (x : FVec Ideal S2048x1x1024 .f32) (g : FVec Ideal S1024x8 .f32)
    (hp : ∀ t k, ∃ r : ℝ, 0 < r ∧ chances x g t k = r) (j : ℕ) (hj : j < 8) (r : Fin 256) (e : Fin 8) :
    keptRows (F := Ideal) (rawWeights x g) (chosen x g) j hj (ix2 r e) = share (chances x g) ⟨256 * j + r.val, by omega⟩ e := by
  refine (kept_at (chosen (F := Ideal) x g) (rawWeights (F := Ideal) x g) j hj r e (fun s => member (chances x g s) e)
    (fun s => chosen_at x g hp s e) ⟨256 * j + r.val, by omega⟩ rfl).trans ?_
  rw [rawWeights_at x g hp]
  rfl

/-- Tables of chunks, each the chunk of one table, are that table read back. -/
theorem pieces_at (w m : FVec Ideal S2048x8 .f32) (G : Fin 2048 → Fin 8 → EReal)
    (h : ∀ (j : ℕ) (hj : j < 8) (r : Fin 256) (e : Fin 8), keptRows w m j hj (ix2 r e) = G ⟨256 * j + r.val, by omega⟩ e)
    (t : Fin 2048) (e : Fin 8) : View.canon (pieces w m) (ix2 t e) = G t e := by
  have tile : ∀ (j : ℕ) (hj : j < 8) (y : S256x8.Idx),
      keptRows w m j hj y = (fun i : S2048x8.Idx => G (i 0) (i 1)) ((rowsRect j (rows_inb j hj)).emb y) := by
    intro j hj y
    refine Eq.trans (congrArg _ (eq_ix2 y)) ((h j hj (y 0) (y 1)).trans ?_)
    refine congrArg₂ G (Fin.ext ?_) (Fin.ext ?_)
    · rw [Rect.emb_apply]; show _ = 256 * j + 1 * (y 0).val; simp
    · rw [Rect.emb_apply]; show _ = 0 + 1 * (y 1).val; simp
  refine View.canon_apply_of_pieces (fun i : S2048x8.Idx => G (i 0) (i 1)) (pieces w m) ?_ (ix2 t e) (pieces_cover _ _ _)
  intro p hp y
  simp only [pieces, List.mem_cons, List.not_mem_nil, or_false] at hp
  rcases hp with rfl | rfl | rfl | rfl | rfl | rfl | rfl | rfl <;> exact tile _ _ y

/-- The block the router leaves holds every token's share for every expert. -/
theorem routed_at (x : FVec Ideal S2048x1x1024 .f32) (g : FVec Ideal S1024x8 .f32)
    (hp : ∀ t k, ∃ r : ℝ, 0 < r ∧ chances x g t k = r) (t : Fin 2048) (e : Fin 8) :
    routed (F := Ideal) x g (ix2 t e) = share (chances x g) t e :=
  pieces_at (rawWeights (F := Ideal) x g) (chosen (F := Ideal) x g) (share (chances x g)) (tile_at x g hp) t e

end Cert.KernelIdeal.Moe
-- ==== Proof.KernelIdeal.Mix.lean ====
/-
  The expert call's body over the extended reals: an expert's rows of a chunk of tokens, and the block after one more expert.
-/
module

public import proofs.«01_k».proof.Proof.KernelIdeal.ExpertBody
public import proofs.«01_k».proof.Proof.KernelIdeal.Choose
public import Idealize.ShloMosaic.Lib.Pipeline.ValueKit

@[expose] public section

set_option maxRecDepth 16384

noncomputable section

namespace Cert.KernelIdeal.Moe

open Cert.KernelIdeal Cert.KernelIdeal.Gen Idealize.ShloMosaic Idealize.ShloMosaic.TcCoe Cert.Moe

/-- An expert's rows, the weight inside the sum over the hidden columns. -/
theorem unit_form (e : BitVec 32) (x : FVec Ideal S512x1x1024 .f32) (wg wu : FVec Ideal S1x1024x704 .f32) (w : FVec Ideal S512x8 .f32)
    (wd : FVec Ideal S1x704x1024 .f32) (r : Fin 512) (d : Fin 1024) :
    k1_pay6 (F := Ideal) e x wg wu w wd (ix2 r d)
      = ∑ h : Fin 704, gated (∑ m : Fin 1024, x (ix3 r 0 m) * wg (ix3 0 m h)) (∑ m : Fin 1024, x (ix3 r 0 m) * wu (ix3 0 m h))
          * (∑ k : Fin 8, if BitVec.ofNat 32 k.val = e then w (ix2 r k) else 0) * wd (ix3 0 h d) := by
  unfold gated
  pointwise [k1_pay6, dot_S512x1024_S1024x704_S512x704_1_0_0_1_n_n, dot_S512x704_S704x1024_S512x1024_1_0_0_1_n_n]
  simp only [zero_sub]
  have lane : ∀ (a b : BitVec 32) (v : EReal), Scalar.select (IntOp.cmpi .eq a b) v 0 = if a = b then v else 0 := by
    intro a b v
    rw [WordCmp.cmpi_eq_eq]
    by_cases h : a = b <;> simp [h, Scalar.select]
  simp only [lane]

/-- An expert's rows, each weighted, when the weight is a real number that is not negative. -/
theorem unit_at (e : Fin 8) (x : FVec Ideal S512x1x1024 .f32) (wg wu : FVec Ideal S1x1024x704 .f32) (w : FVec Ideal S512x8 .f32)
    (wd : FVec Ideal S1x704x1024 .f32) (r : Fin 512) (d : Fin 1024) (hw : ∃ q : ℝ, 0 ≤ q ∧ w (ix2 r e) = q) :
    k1_pay6 (F := Ideal) (BitVec.ofNat 32 e.val) x wg wu w wd (ix2 r d)
      = expertRow (fun m => x (ix3 r 0 m)) (fun m h => wg (ix3 0 m h)) (fun m h => wu (ix3 0 m h)) (fun h c => wd (ix3 0 h c)) d
          * w (ix2 r e) := by
  rw [unit_form]
  have lane : ∀ k : Fin 8, BitVec.ofNat 32 k.val = BitVec.ofNat 32 e.val ↔ k = e := by
    have : ∀ e k : Fin 8, BitVec.ofNat 32 k.val = BitVec.ofNat 32 e.val ↔ k = e := by decide
    exact this e
  simp only [lane, Finset.sum_ite_eq', Finset.mem_univ, if_true]
  unfold expertRow
  exact sum_weighted _ _ _ hw

/-- The store of a chunk, element by element. -/
theorem stored_at (b : Bool) (y : FVec Ideal S512x1024 .f32) (old : FVec Ideal S512x1x1024 .f32) (r : Fin 512) (d : Fin 1024) :
    stored b y old (ix3 r 0 d) = (if b then 0 else old (ix3 r 0 d)) + y (ix2 r d) := by
  cases b
  · pointwise [stored, k1_pay2]
    rw [if_neg (by decide)]
  · rw [if_pos rfl, zero_add]
    pointwise [stored, k1_pay1]

/-- The stores of one expert's body are one table read back, when each chunk's store is that table's chunk. -/
theorem outPieces_at (b : Bool) (y : (j : ℕ) → j < 4 → FVec Ideal S512x1024 .f32) (old : FVec Ideal S2048x1x1024 .f32)
    (G : Fin 2048 → Fin 1024 → EReal)
    (h : ∀ (j : ℕ) (hj : j < 4) (r : Fin 512) (d : Fin 1024),
      (if b then 0 else old (ix3 (⟨512 * j + r.val, by omega⟩ : Fin 2048) 0 d)) + y j hj (ix2 r d) = G ⟨512 * j + r.val, by omega⟩ d)
    (t : Fin 2048) (d : Fin 1024) : View.canon (outPieces b y old) (ix3 t 0 d) = G t d := by
  have tile : ∀ (j : ℕ) (hj : j < 4) (i : S512x1x1024.Idx),
      stored b (y j hj) (View.ld old (chunkRect j hj)) i
        = (fun i : S2048x1x1024.Idx => G (i 0) (i 2)) ((chunkRect j hj).emb i) := by
    intro j hj i
    have i1 : i 1 = (0 : Fin 1) := Subsingleton.elim (α := Fin 1) _ _
    have ei : i = ix3 (i 0) 0 (i 2) := (eq_ix3 i).trans (congrArg (fun k => ix3 (i 0) k (i 2)) i1)
    refine Eq.trans (congrArg _ ei) ((stored_at b (y j hj) _ (i 0) (i 2)).trans (Eq.trans ?_ ((h j hj (i 0) (i 2)).trans ?_)))
    · refine congrArg (fun v => (if b then 0 else v) + y j hj (ix2 (i 0) (i 2))) (congrArg old ?_)
      funext a
      refine Fin.ext ?_
      match a with
      | ⟨0, _⟩ => show 512 * j + 1 * (i 0).val = 512 * j + (i 0).val; omega
      | ⟨1, _⟩ => rfl
      | ⟨2, _⟩ => show 0 + 1 * (i 2).val = (i 2).val; omega
    · refine congrArg₂ G (Fin.ext ?_) (Fin.ext ?_)
      · rw [Rect.emb_apply]; show _ = 512 * j + 1 * (i 0).val; simp
      · rw [Rect.emb_apply]; show _ = 0 + 1 * (i 2).val; simp
  refine View.canon_apply_of_pieces (fun i : S2048x1x1024.Idx => G (i 0) (i 2)) (outPieces b y old) ?_ (ix3 t 0 d) (outPieces_cover _ _ _ _)
  intro p hp i
  simp only [outPieces, List.mem_cons, List.not_mem_nil, or_false] at hp
  rcases hp with rfl | rfl | rfl | rfl <;> exact tile _ _ i

/-- An expert's rows of a chunk, from the whole buffers. -/
theorem expertRows_at (e : Fin 8) (x : FVec Ideal S2048x1x1024 .f32) (wg wu : FVec Ideal S1x1024x704 .f32)
    (wd : FVec Ideal S1x704x1024 .f32) (w : FVec Ideal S2048x8 .f32) (hw : ∀ t, ∃ q : ℝ, 0 ≤ q ∧ w (ix2 t e) = q)
    (j : ℕ) (hj : j < 4) (r : Fin 512) (d : Fin 1024) :
    expertRows (F := Ideal) (BitVec.ofNat 32 e.val) x wg wu wd w j hj (ix2 r d)
      = expertRow (fun m => x (ix3 (⟨512 * j + r.val, by omega⟩ : Fin 2048) 0 m)) (fun m h => wg (ix3 0 m h)) (fun m h => wu (ix3 0 m h))
          (fun h c => wd (ix3 0 h c)) d * w (ix2 (⟨512 * j + r.val, by omega⟩ : Fin 2048) e) := by
  have ew : ∀ k : Fin 8, View.ld (Val := Elt Ideal) (e' := .f32) w (wchunkRect j hj) (ix2 r k) = w (ix2 (⟨512 * j + r.val, by omega⟩ : Fin 2048) k) := by
    intro k
    refine congrArg w ?_
    funext a
    refine Fin.ext ?_
    match a with
    | ⟨0, _⟩ => show 512 * j + 1 * r.val = 512 * j + r.val; omega
    | ⟨1, _⟩ => show 0 + 1 * k.val = k.val; omega
  have ex : ∀ m : Fin 1024, View.ld (Val := Elt Ideal) (e' := .f32) x (chunkRect j hj) (ix3 r 0 m) = x (ix3 (⟨512 * j + r.val, by omega⟩ : Fin 2048) 0 m) := by
    intro m
    refine congrArg x ?_
    funext a
    refine Fin.ext ?_
    match a with
    | ⟨0, _⟩ => show 512 * j + 1 * r.val = 512 * j + r.val; omega
    | ⟨1, _⟩ => rfl
    | ⟨2, _⟩ => show 0 + 1 * m.val = m.val; omega
  have zeros : (![0, 0, 0] : Fin 3 → ℕ) = fun _ => 0 := by decide
  have eg : View.ld (Val := Elt Ideal) (e' := .f32) wg allIn = wg := View.ld_unit_zero (S := S1x1024x704) (off := ![0, 0, 0]) zeros _ _
  have eu : View.ld (Val := Elt Ideal) (e' := .f32) wu allIn = wu := View.ld_unit_zero (S := S1x1024x704) (off := ![0, 0, 0]) zeros _ _
  have ed : View.ld (Val := Elt Ideal) (e' := .f32) wd allOut = wd := View.ld_unit_zero (S := S1x704x1024) (off := ![0, 0, 0]) zeros _ _
  unfold expertRows
  rw [eg, eu, ed]
  have key : ∀ (x' : FVec Ideal S512x1x1024 .f32) (w' : FVec Ideal S512x8 .f32),
      (∀ m : Fin 1024, x' (ix3 r 0 m) = x (ix3 (⟨512 * j + r.val, by omega⟩ : Fin 2048) 0 m)) →
      (∀ k : Fin 8, w' (ix2 r k) = w (ix2 (⟨512 * j + r.val, by omega⟩ : Fin 2048) k)) →
      k1_pay6 (F := Ideal) (BitVec.ofNat 32 e.val) x' wg wu w' wd (ix2 r d)
        = expertRow (fun m => x (ix3 (⟨512 * j + r.val, by omega⟩ : Fin 2048) 0 m)) (fun m h => wg (ix3 0 m h)) (fun m h => wu (ix3 0 m h))
          (fun h c => wd (ix3 0 h c)) d * w (ix2 (⟨512 * j + r.val, by omega⟩ : Fin 2048) e) := by
    intro x' w' hx' hw'
    rw [unit_at e x' wg wu w' wd r d ((hw _).imp fun q h => ⟨h.1, (hw' e).trans h.2⟩), hw']
    simp only [hx']
  exact key _ _ ex ew

/-- The block after expert `e`: what it held, nothing for the first expert, plus the expert's rows weighted. -/
theorem mixed_at (e : Fin 8) (x : FVec Ideal S2048x1x1024 .f32) (wg wu : FVec Ideal S1x1024x704 .f32) (wd : FVec Ideal S1x704x1024 .f32)
    (w : FVec Ideal S2048x8 .f32) (old : FVec Ideal S2048x1x1024 .f32) (hw : ∀ t, ∃ q : ℝ, 0 ≤ q ∧ w (ix2 t e) = q)
    (t : Fin 2048) (d : Fin 1024) :
    mixed (F := Ideal) e.val x wg wu wd w old (ix3 t 0 d)
      = (if decide (e.val = 0) then 0 else old (ix3 t 0 d))
        + expertRow (fun m => x (ix3 t 0 m)) (fun m h => wg (ix3 0 m h)) (fun m h => wu (ix3 0 m h)) (fun h c => wd (ix3 0 h c)) d
          * w (ix2 t e) := by
  have rowsAt := expertRows_at e x wg wu wd w hw
  unfold mixed
  generalize expertRows (F := Ideal) (BitVec.ofNat 32 e.val) x wg wu wd w = y at rowsAt ⊢
  generalize decide (e.val = 0) = b
  exact outPieces_at b y old
    (fun t d => (if b then 0 else old (ix3 t 0 d))
        + expertRow (fun m => x (ix3 t 0 m)) (fun m h => wg (ix3 0 m h)) (fun m h => wu (ix3 0 m h)) (fun h c => wd (ix3 0 h c)) d
          * w (ix2 t e)) (fun j hj r d => congrArg (HAdd.hAdd _) (rowsAt j hj r d)) t d

end Cert.KernelIdeal.Moe
-- ==== Proof.KernelIdeal.Arrays.lean ====
/-
  The arrays the two calls leave, over the arrays they begin from.
-/
module

public import proofs.«01_k».proof.Proof.KernelIdeal.Run
public import proofs.«01_k».proof.Proof.KernelIdeal.Kept
public import proofs.«01_k».proof.Proof.KernelIdeal.Mix

@[expose] public section

set_option maxRecDepth 16384

noncomputable section

namespace Cert.KernelIdeal.Moe

open Cert.KernelIdeal Cert.KernelIdeal.Gen Idealize.ShloMosaic Idealize.ShloMosaic.TcCoe Cert.Moe
open Idealize.ShloMosaic.Pipeline (Dat)

variable (V : (c : Dev nD) → (b : Ref sig .tc) → Buf (Elt Ideal) ((c : Thread nD τ).loc b)) (c : Dev nD)

/-! ## The router's call -/

/-- The router call's windows cover their whole arrays. -/
theorem idx0 : ∀ t : Fin cfg0.N, win0_0.index t = ![0, 0, 0] ∧ win0_1.index t = ![0, 0] ∧ win0_2.index t = ![0, 0] :=
  (by decide +kernel : ∀ t : Fin grid0.N, _)

/-- The router reads all tokens -/
theorem rblk_tokens (t : Fin cfg0.N) : rblk V c 0 t = V c main_arg0 := by blk_ext! [rblk, idx0 t]
/-- and its whole matrix. -/
theorem rblk_gate (t : Fin cfg0.N) : rblk V c 1 t = V c main_arg1 := by blk_ext! [rblk, idx0 t]

/-- The array of weights the router leaves. -/
theorem router_array : (routerDat V c).arrAt 2 cfg0.N = routed (F := Ideal) (V c main_arg0) (V c main_arg1) := by
  refine (routerDat V c).arrAt_eq_of_after_last 2 t0_0 (by decide +kernel) _ fun j => ?_
  blk_simp
  rw [show (routerDat V c).after 2 t0_0 = routed (View.ld (rblk V c 0 t0_0 : Vec Ideal S2048x1x1024 .f32) allTokens)
    (View.ld (rblk V c 1 t0_0 : Vec Ideal S1024x8 .f32) allGate) from rfl, rblk_tokens, rblk_gate]
  have ex : View.ld (V c main_arg0 : Vec Ideal S2048x1x1024 .f32) allTokens = V c main_arg0 :=
    View.ld_unit_zero (S := S2048x1x1024) (off := ![0, 0, 0]) (by decide) _ _
  have eg : View.ld (V c main_arg1 : Vec Ideal S1024x8 .f32) allGate = V c main_arg1 :=
    View.ld_unit_zero (S := S1024x8) (off := ![0, 0]) (by decide) _ _
  exact congrFun (congrArg₂ (routed (F := Ideal)) ex eg) j

/-! ## The expert call -/

/-- At expert `t` the windows on the experts' matrices stand at slice `t`; the others cover their whole arrays. -/
theorem idx1 : ∀ t : Fin cfg1.N, win1_0.index t = ![0, 0, 0] ∧ win1_1.index t = ![t.val, 0, 0] ∧ win1_2.index t = ![t.val, 0, 0]
    ∧ win1_3.index t = ![t.val, 0, 0] ∧ win1_4.index t = ![0, 0] ∧ win1_5.index t = ![0, 0, 0] ∧ t.val < 8 :=
  (by decide +kernel : ∀ t : Fin grid1.N, _)

/-- An expert reads all tokens, -/
theorem eblk_tokens (t : Fin cfg1.N) : eblk V c 0 t = V c main_arg0 := by blk_ext! [eblk, idx1 t]
/-- and all of the router's weights. -/
theorem eblk_weights (t : Fin cfg1.N) : eblk V c 4 t = V c main_v0 := by blk_ext! [eblk, idx1 t]

/-- An expert's matrices are its slices of the three arrays. -/
theorem eblk_gates (t : Fin cfg1.N) (m : Fin 1024) (h : Fin 704) :
    (show FVec Ideal S1x1024x704 .f32 from eblk V c 1 t) (ix3 0 m h)
      = (show FVec Ideal S8x1024x704 .f32 from V c main_arg2) (ix3 (⟨t.val, (idx1 t).2.2.2.2.2.2⟩ : Fin 8) m h) := by
  blk_ext [eblk, idx1 t]

/-- (the second projections) -/
theorem eblk_ups (t : Fin cfg1.N) (m : Fin 1024) (h : Fin 704) :
    (show FVec Ideal S1x1024x704 .f32 from eblk V c 2 t) (ix3 0 m h)
      = (show FVec Ideal S8x1024x704 .f32 from V c main_arg3) (ix3 (⟨t.val, (idx1 t).2.2.2.2.2.2⟩ : Fin 8) m h) := by
  blk_ext [eblk, idx1 t]

/-- (the projections back) -/
theorem eblk_downs (t : Fin cfg1.N) (h : Fin 704) (d : Fin 1024) :
    (show FVec Ideal S1x704x1024 .f32 from eblk V c 3 t) (ix3 0 h d)
      = (show FVec Ideal S8x704x1024 .f32 from V c main_arg4) (ix3 (⟨t.val, (idx1 t).2.2.2.2.2.2⟩ : Fin 8) h d) := by
  blk_ext [eblk, idx1 t]

/-- The output block after expert `t`. -/
theorem expert_after (t : Fin cfg1.N) : (expertDat V c).after 5 t = accum V c t.val t.isLt := rfl

/-- The result's array is what the last expert leaves. -/
theorem expert_array : (expertDat V c).arrAt 5 cfg1.N = accum V c t1_7.val t1_7.isLt := by
  refine (expertDat V c).arrAt_eq_of_after_last 5 t1_7 (by decide +kernel) _ fun j => ?_
  blk_simp
  rw [expert_after]

end Cert.KernelIdeal.Moe
-- ==== Proof.KernelIdeal.Value.lean ====
/-
  The kernel's result over the extended reals, element by element: the sum over the experts of the expert's row times the token's share.
-/
module

public import proofs.«01_k».proof.Proof.KernelIdeal.Arrays

@[expose] public section

set_option maxRecDepth 16384

noncomputable section

namespace Cert.KernelIdeal.Moe

open Cert.KernelIdeal Cert.KernelIdeal.Gen Idealize.ShloMosaic Idealize.ShloMosaic.TcCoe Cert.Moe
open Idealize.ShloMosaic.Pipeline (Dat)

/-- The block after one more expert, over the arrays the experts are slices of. -/
theorem mixed_row (n : ℕ) (hn : n < 8) (x : FVec Ideal S2048x1x1024 .f32) (wg wu : FVec Ideal S1x1024x704 .f32)
    (wd : FVec Ideal S1x704x1024 .f32) (w : FVec Ideal S2048x8 .f32) (old : FVec Ideal S2048x1x1024 .f32)
    (G U : FVec Ideal S8x1024x704 .f32) (D : FVec Ideal S8x704x1024 .f32) (P : Fin 2048 → Fin 8 → EReal)
    (hP : ∀ t k, ∃ r : ℝ, 0 < r ∧ P t k = r) (hw : ∀ t e, w (ix2 t e) = share P t e)
    (hg : ∀ m h, wg (ix3 0 m h) = G (ix3 (⟨n, hn⟩ : Fin 8) m h)) (hu : ∀ m h, wu (ix3 0 m h) = U (ix3 (⟨n, hn⟩ : Fin 8) m h))
    (hd : ∀ h d, wd (ix3 0 h d) = D (ix3 (⟨n, hn⟩ : Fin 8) h d)) (t : Fin 2048) (d : Fin 1024) :
    mixed (F := Ideal) n x wg wu wd w old (ix3 t 0 d)
      = (if n = 0 then 0 else old (ix3 t 0 d))
        + expertRow (fun m => x (ix3 t 0 m)) (fun m h => G (ix3 (⟨n, hn⟩ : Fin 8) m h)) (fun m h => U (ix3 (⟨n, hn⟩ : Fin 8) m h))
            (fun h c => D (ix3 (⟨n, hn⟩ : Fin 8) h c)) d * share P t ⟨n, hn⟩ := by
  have h := mixed_at ⟨n, hn⟩ x wg wu wd w old (fun t => by rw [hw]; exact share_real P hP t _) t d
  simp only [hg, hu, hd, hw, decide_eq_true_eq] at h
  exact h

variable (V : (c : Dev nD) → (b : Ref sig .tc) → Buf (Elt Ideal) ((c : Thread nD τ).loc b)) (c : Dev nD)

/-- A token's row through an expert, over the arrays the expert call begins from. -/
def row (t : Fin 2048) (e : Fin 8) (d : Fin 1024) : EReal :=
  expertRow (fun m => (show FVec Ideal S2048x1x1024 .f32 from V c main_arg0) (ix3 t 0 m))
    (fun m h => (show FVec Ideal S8x1024x704 .f32 from V c main_arg2) (ix3 e m h))
    (fun m h => (show FVec Ideal S8x1024x704 .f32 from V c main_arg3) (ix3 e m h))
    (fun h d => (show FVec Ideal S8x704x1024 .f32 from V c main_arg4) (ix3 e h d)) d

/-- An element after one more expert. -/
theorem withExpert_at (P : Fin 2048 → Fin 8 → EReal) (hP : ∀ t k, ∃ r : ℝ, 0 < r ∧ P t k = r)
    (hw : ∀ t e, (show FVec Ideal S2048x8 .f32 from V c main_v0) (ix2 t e) = share P t e)
    (n : ℕ) (h : n < cfg1.N) (hn : n < 8) (old : FVec Ideal S2048x1x1024 .f32) (t : Fin 2048) (d : Fin 1024) :
    (show FVec Ideal S2048x1x1024 .f32 from withExpert V c n h old) (ix3 t 0 d)
      = (if n = 0 then 0 else old (ix3 t 0 d)) + row V c t ⟨n, hn⟩ d * share P t ⟨n, hn⟩ := by
  unfold withExpert
  rw [eblk_tokens, eblk_weights]
  exact mixed_row n hn _ _ _ _ _ old _ _ _ P hP hw (eblk_gates V c ⟨n, h⟩) (eblk_ups V c ⟨n, h⟩) (eblk_downs V c ⟨n, h⟩) t d

/-- An element after the experts up to `n`. -/
theorem accum_at (P : Fin 2048 → Fin 8 → EReal) (hP : ∀ t k, ∃ r : ℝ, 0 < r ∧ P t k = r)
    (hw : ∀ t e, (show FVec Ideal S2048x8 .f32 from V c main_v0) (ix2 t e) = share P t e) (t : Fin 2048) (d : Fin 1024) :
    ∀ (n : ℕ) (h : n < cfg1.N), (show FVec Ideal S2048x1x1024 .f32 from accum V c n h) (ix3 t 0 d) = output P (row V c t) t d (n + 1)
  | 0, h => by
    refine (withExpert_at V c P hP hw 0 h (by decide) _ t d).trans ?_
    rw [if_pos rfl]
    show _ = 0 + dite _ _ _
    rw [dif_pos (by decide)]
  | n + 1, h => by
    have hn : n + 1 < 8 := (idx1 ⟨n + 1, h⟩).2.2.2.2.2.2
    refine (withExpert_at V c P hP hw (n + 1) h hn _ t d).trans ?_
    rw [if_neg (Nat.succ_ne_zero n)]
    show _ = output P (row V c t) t d (n + 1) + dite _ _ _
    rw [dif_pos hn, ← accum_at P hP hw t d n (Nat.lt_of_succ_lt h)]

end Cert.KernelIdeal.Moe
-- ==== Proof.KernelIdeal.Result.lean ====
/-
  The kernel's result over the extended reals, from the memory it is launched on.
-/
module

public import proofs.«01_k».proof.Proof.KernelIdeal.Value
public import proofs.«01_k».proof.Proof.KernelIdeal.Kept

@[expose] public section

set_option maxRecDepth 16384

noncomputable section

namespace Cert.KernelIdeal.Moe

open Cert.KernelIdeal Cert.KernelIdeal.Gen Idealize.ShloMosaic Idealize.ShloMosaic.TcCoe Cert.Moe
open Idealize.ShloMosaic.Pipeline (Dat)

/-- Every probability of finite tokens under a finite router's matrix is a positive number. -/
theorem chances_real (x : FVec Ideal S2048x1x1024 .f32) (g : FVec Ideal S1024x8 .f32) (hx : ∀ t m, ∃ r : ℝ, x (ix3 t 0 m) = r)
    (hg : ∀ m e, ∃ r : ℝ, g (ix2 m e) = r) (t : Fin 2048) (e : Fin 8) : ∃ r : ℝ, 0 < r ∧ chances x g t e = r :=
  softmax_real _ (fun k => sum_real _ _ (hx t) fun m => hg m k) e

/-- An expert's rows depend on the tokens and the experts' matrices only. -/
theorem row_congr (V V' : (c : Dev nD) → (b : Ref sig .tc) → Buf (Elt Ideal) ((c : Thread nD τ).loc b)) (c : Dev nD) (t : Fin 2048)
    (h0 : V c main_arg0 = V' c main_arg0) (h2 : V c main_arg2 = V' c main_arg2) (h3 : V c main_arg3 = V' c main_arg3)
    (h4 : V c main_arg4 = V' c main_arg4) : row V c t = row V' c t := by
  unfold row
  rw [h0, h2, h3, h4]

variable (m : (ℓ : Loc nD τ sig) → Buf (Elt Ideal) ℓ) (c : Dev nD)

/-- The kernel's arguments, as arrays. -/
abbrev tokens : FVec Ideal S2048x1x1024 .f32 := m ((c.tc : Thread nD τ).loc main_arg0)
abbrev router : FVec Ideal S1024x8 .f32 := m ((c.tc : Thread nD τ).loc main_arg1)

/-- The expert call reads the router's weights. -/
theorem weights_read : (afterRouter m c main_v0 : FVec Ideal S2048x8 .f32) = routed (F := Ideal) (tokens m c) (router m c) :=
  (Pipeline.withArrays_arr spec0 launch0.win.arr_inj c (atLaunch m c)
    (fun w => (routerDat (fun c b => atLaunch m c b) c).arrAt w cfg0.N) 2).trans (router_array (fun c b => atLaunch m c b) c)

/-- An expert's rows are those of the launched arguments. -/
theorem row_launched (t : Fin 2048) : row (fun c b => afterRouter m c b) c t = row (fun c b => atLaunch m c b) c t :=
  row_congr _ _ c t (afterRouter_kept m c main_arg0 (by decide)) (afterRouter_kept m c main_arg2 (by decide))
    (afterRouter_kept m c main_arg3 (by decide)) (afterRouter_kept m c main_arg4 (by decide))

/-- The kernel's result at an element, when the tokens and the router's matrix are finite. -/
theorem result_at (hx : ∀ t k, ∃ r : ℝ, tokens m c (ix3 t 0 k) = r) (hg : ∀ k e, ∃ r : ℝ, router m c (ix2 k e) = r)
    (t : Fin 2048) (d : Fin 1024) :
    (show FVec Ideal S2048x1x1024 .f32 from (expertDat (fun c b => afterRouter m c b) c).arrAt 5 cfg1.N) (ix3 t 0 d)
      = output (chances (tokens m c) (router m c)) (row (fun c b => atLaunch m c b) c t) t d 8 := by
  have hp := chances_real _ _ hx hg
  rw [expert_array, ← row_launched]
  exact accum_at (fun c b => afterRouter m c b) c _ hp
    (fun t e => (congrFun (weights_read m c) (ix2 t e)).trans (routed_at _ _ hp t e)) t d t1_7.val t1_7.isLt

end Cert.KernelIdeal.Moe
-- ==== Proof.ReferenceIdeal.Steps.lean ====
/-
  The reference as eight applications of one step, a function of the expert's number and of its three weight matrices: the tokens
  that chose the expert, the first 1024 tokens of the order that puts them in front, their rows through the gated unit, and the sum
  of the weighted rows into the rows they came from.
-/
module

public import proofs.«01_k».proof.Proof.Gen.ReferenceIdeal.Run

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe

variable {F : FTy → Type} [FloatOps F]

/-- Which of a token's two choices is the expert. -/
def hits (ix : IVec S2048x2 32) (e : BitVec 32) : IVec S2048x2 1 :=
  cmpi .eq ix (broadcastInDim S2048x2 ![] bcast_S_S2048x2 (constantI S_ 32 e))

/-- Whether a token chose the expert. -/
def chose (hit : IVec S2048x2 1) : IVec S2048 1 :=
  Host.reduce IntOp.ori hit (constantI S_ 1 0#1) reducesTo_S2048x2_S2048_d1 h_S_

/-- The first 1024 tokens of the stable order by key 0 for a token that chose the expert and 1 for one that did not. -/
def front (mem : IVec S2048 1) : IVec S1024 32 :=
  extractStridedSlice S1024 ![0]
    ((Host.sort2 S2048 0 comparator_i32_i32_d0
      (id (select mem (broadcastInDim S2048 ![] bcast_S_S2048 (constantI S_ 32 0#32))
        (broadcastInDim S2048 ![] bcast_S_S2048 (constantI S_ 32 1#32))))
      (iotaInDim S2048 32 0)).2) slices_S2048_S1024_0

/-- The tokens' numbers as a column of row numbers. -/
def rowsOf (pos : IVec S1024 32) : IVec S1024x1 32 :=
  broadcastInDim S1024x1 ![0] bcast_S1024_S1024x1_0
    (select (cmpi .slt pos (broadcastInDim S1024 ![] bcast_S_S1024 (constantI S_ 32 0#32)))
      (addi pos (broadcastInDim S1024 ![] bcast_S_S1024 (constantI S_ 32 2048#32))) pos)

/-- A row block through the gated unit and the down projection. -/
def unit (xe : FVec F S1024x1024 .f32) (wg wu : FVec F S1024x704 .f32) (wd : FVec F S704x1024 .f32) : FVec F S1024x1024 .f32 :=
  Host.dotGeneral dot_S1024x704_S704x1024_S1024x1024_1_0_0_1_n_n none
    (mulf
      (mulf (Host.dotGeneral dot_S1024x1024_S1024x704_S1024x704_1_0_0_1_n_n none xe wg)
        (Host.divf (broadcastInDim S1024x704 ![] bcast_S_S1024x704 (constant S_ .f32 0x3F800000#32))
          (addf (broadcastInDim S1024x704 ![] bcast_S_S1024x704 (constant S_ .f32 0x3F800000#32))
            (Host.exp (Host.negf (Host.dotGeneral dot_S1024x1024_S1024x704_S1024x704_1_0_0_1_n_n none xe wg))))))
      (Host.dotGeneral dot_S1024x1024_S1024x704_S1024x704_1_0_0_1_n_n none xe wu)) wd

/-- What each of the 1024 rows is multiplied by: its token's weight for the expert, or zero where the token did not choose it. -/
def factors (w : FVec F S2048x2 .f32) (hit : IVec S2048x2 1) (mem : IVec S2048 1) (rows : IVec S1024x1 32) : FVec F S1024 .f32 :=
  mulf (Host.gather gather_S2048_S1024x1_S1024_n_0_n_n_0_1_1
      (Host.reduceAdd (mulf w (uitofp .f32 hit)) (constant S_ .f32 0x00000000#32) reducesTo_S2048x2_S2048_d1 h_S_) rows)
    (uitofp .f32 (Host.gather gather_S2048_S1024x1_S1024_n_0_n_n_0_1_1 mem rows))

/-- One expert's contribution added into the accumulated rows. -/
def step (x : FVec F S2048x1024 .f32) (ix : IVec S2048x2 32) (w : FVec F S2048x2 .f32) (e : BitVec 32)
    (wg wu : FVec F S1024x704 .f32) (wd : FVec F S704x1024 .f32) (acc : FVec F S2048x1024 .f32) : FVec F S2048x1024 .f32 :=
  Host.scatterAdd scatter_S2048x1024_S1024x1_S1024x1024_1_0_0_1 acc (rowsOf (front (chose (hits ix e))))
    (mulf (unit (Host.gather gather_S2048x1024_S1024x1_S1024x1024_1_0_n_n_0_1_11024 x (rowsOf (front (chose (hits ix e))))) wg wu wd)
      (broadcastInDim S1024x1024 ![0, 1] bcast_S1024x1_S1024x1024_0_1 (broadcastInDim S1024x1 ![0] bcast_S1024_S1024x1_0
        (factors w (hits ix e) (chose (hits ix e)) (rowsOf (front (chose (hits ix e))))))))

/-- One expert's step with its matrices cut from the stacked ones at a literal offset. -/
def cut (V : Valuation τ sig (Elt F)) (e : BitVec 32) (o : Fin 3 → ℕ)
    (h : S8x1024x704.Slices o S1x1024x704) (h' : S8x704x1024.Slices o S1x704x1024) (acc : FVec F S2048x1024 .f32) :
    FVec F S2048x1024 .f32 :=
  step (res_main_v1 V) (res_main_indices V) (res_main_v17 V) e
    (shapeCast S1024x704 (extractStridedSlice S1x1024x704 o (V (Proc.devRef .tc main_arg2)) h) shapeCasts_S1x1024x704_S1024x704)
    (shapeCast S1024x704 (extractStridedSlice S1x1024x704 o (V (Proc.devRef .tc main_arg3)) h) shapeCasts_S1x1024x704_S1024x704)
    (shapeCast S704x1024 (extractStridedSlice S1x704x1024 o (V (Proc.devRef .tc main_arg4)) h') shapeCasts_S1x704x1024_S704x1024) acc

/-- The sum after two experts, -/
theorem v126_eq (V : Valuation τ sig (Elt F)) : res_main_v126 V =
    cut V 1#32 ![1, 0, 0] slices_S8x1024x704_S1x1024x704_1_0_0 slices_S8x704x1024_S1x704x1024_1_0_0
      (cut V 0#32 ![0, 0, 0] slices_S8x1024x704_S1x1024x704_0_0_0 slices_S8x704x1024_S1x704x1024_0_0_0
        (broadcastInDim S2048x1024 ![] bcast_S_S2048x1024 (constant S_ .f32 0x00000000#32))) := rfl

/-- after four, -/
theorem v234_eq (V : Valuation τ sig (Elt F)) : res_main_v234 V =
    cut V 3#32 ![3, 0, 0] slices_S8x1024x704_S1x1024x704_3_0_0 slices_S8x704x1024_S1x704x1024_3_0_0
      (cut V 2#32 ![2, 0, 0] slices_S8x1024x704_S1x1024x704_2_0_0 slices_S8x704x1024_S1x704x1024_2_0_0 (res_main_v126 V)) := rfl

/-- after six, -/
theorem v342_eq (V : Valuation τ sig (Elt F)) : res_main_v342 V =
    cut V 5#32 ![5, 0, 0] slices_S8x1024x704_S1x1024x704_5_0_0 slices_S8x704x1024_S1x704x1024_5_0_0
      (cut V 4#32 ![4, 0, 0] slices_S8x1024x704_S1x1024x704_4_0_0 slices_S8x704x1024_S1x704x1024_4_0_0 (res_main_v234 V)) := rfl

/-- and after all eight. -/
theorem v450_eq (V : Valuation τ sig (Elt F)) : res_main_v450 V =
    cut V 7#32 ![7, 0, 0] slices_S8x1024x704_S1x1024x704_7_0_0 slices_S8x704x1024_S1x704x1024_7_0_0
      (cut V 6#32 ![6, 0, 0] slices_S8x1024x704_S1x1024x704_6_0_0 slices_S8x704x1024_S1x704x1024_6_0_0 (res_main_v342 V)) := rfl

end Cert.ReferenceIdeal.Moe
-- ==== Proof.ReferenceIdeal.Front.lean ====
/-
  The integer side of one step of the reference, read at an index: which tokens chose the expert, and which tokens stand in front.
-/
module

public import proofs.«01_k».proof.Proof.ReferenceIdeal.Steps
public import proofs.«01_k».proof.Proof.Value.Spec
public import Idealize.ShloMosaic.Lib.Pointwise
public import Idealize.ShloMosaic.Lib.Routing.OpsSearch
public import Idealize.ShloMosaic.Lib.Routing.OpsSet
public import Idealize.ShloMosaic.Lib.Routing.OpsOrder

@[expose] public section

set_option maxRecDepth 16384

noncomputable section

namespace Cert.ReferenceIdeal.Moe

open Cert.ReferenceIdeal Cert.ReferenceIdeal.Gen Idealize.ShloMosaic Cert.Moe

/-- A hit is marked where a token's choice is the expert. -/
theorem hits_one_iff (ix : IVec S2048x2 32) (e : BitVec 32) (t : Fin 2048) (k : Fin 2) :
    hits ix e (ix2 t k) = 1#1 ↔ ix (ix2 t k) = e := by
  unfold hits
  pointwise
  rw [WordCmp.cmpi_eq_eq, WordCmp.ofBool_decide_eq_one_iff]

/-- A token is a member when either of its choices is a hit. -/
theorem chose_one_iff (hit : IVec S2048x2 1) (t : Fin 2048) :
    chose hit (ix1 t) = 1#1 ↔ hit (ix2 t 0) = 1#1 ∨ hit (ix2 t 1) = 1#1 := by
  unfold chose
  pointwise
  rw [show (Finset.univ : Finset (Fin 2)) = {0, 1} from rfl, Routing.fold_ori]
  simp

/-- The order in which the reference puts the tokens: those for which `M` holds in front, each part in the tokens' order. -/
def queue (M : Fin 2048 → Prop) [DecidablePred M] : Fin 2048 → Fin 2048 := sortedFrom fun a b => decide (M a ∧ ¬ M b)

/-- The tokens the reference takes are the front of that order. -/
theorem front_eq (mem : IVec S2048 1) (i : Fin 1024) :
    front mem (ix1 i) = BitVec.ofNat 32 (queue (fun t => mem (ix1 t) = 1#1) ⟨i.val, by omega⟩).val := by
  unfold front Host.sort2
  pointwise
  have e : ∀ (j : S2048.Idx) (k : Fin 2048), j.along (0 : Fin 1) k = ix1 k := fun j k =>
    (Shape.Idx.along_rank1 j k).trans (Routing.ofFin_eq_ix1 k)
  have hlt : (fun k k' : Fin 2048 =>
      comparator_i32_i32_d0
        (id (select mem (broadcastInDim S2048 ![] bcast_S_S2048 (constantI S_ 32 0#32))
          (broadcastInDim S2048 ![] bcast_S_S2048 (constantI S_ 32 1#32))) (ix1 k), BitVec.ofNat 32 k.val)
        (id (select mem (broadcastInDim S2048 ![] bcast_S_S2048 (constantI S_ 32 0#32))
          (broadcastInDim S2048 ![] bcast_S_S2048 (constantI S_ 32 1#32))) (ix1 k'), BitVec.ofNat 32 k'.val) == 1#1)
      = fun a b => decide (mem (ix1 a) = 1#1 ∧ ¬ mem (ix1 b) = 1#1) := by
    funext a b
    unfold comparator_i32_i32_d0
    simp only [id]
    pointwise
    by_cases ha : mem (ix1 a) = 1#1 <;> by_cases hb : mem (ix1 b) = 1#1 <;>
      simp [ha, hb, Scalar.select, IntOp.cmpi]
  simp only [e]
  unfold queue
  refine congrArg (fun f => BitVec.ofNat 32 (sortedFrom f (⟨i.val, by omega⟩ : Fin 2048)).val) ?_
  exact hlt

/-- They are the rows it gathers and scatters. -/
theorem rows_eq (mem : IVec S2048 1) (i : Fin 1024) :
    rowsOf (front mem) (ix2 i 0) = BitVec.ofNat 32 (queue (fun t => mem (ix1 t) = 1#1) ⟨i.val, by omega⟩).val := by
  unfold rowsOf
  pointwise
  rw [front_eq]
  exact Routing.wrap_of_lt _ _ (by
    have := (queue (fun t => mem (ix1 t) = 1#1) ⟨i.val, by omega⟩).isLt
    rw [BitVec.toNat_ofNat]; omega)

end Cert.ReferenceIdeal.Moe
-- ==== Proof.ReferenceIdeal.Lands.lean ====
/-
  Where the reference's rows land and from where they are taken: row `i` of the 1024 comes from the `i`-th token of the queue and is
  added into that token's row. The queue's places are different tokens, so a token's row receives at most one row.
-/
module

public import proofs.«01_k».proof.Proof.ReferenceIdeal.Front
public import Idealize.ShloMosaic.Lib.Routing.OpsPair

@[expose] public section

set_option maxRecDepth 16384

noncomputable section

namespace Cert.ReferenceIdeal.Moe

open Cert.ReferenceIdeal Cert.ReferenceIdeal.Gen Idealize.ShloMosaic Cert.Moe

/-- Update `(i, d')` is added into element `(t, d)` exactly when row number `i` is `t` and the columns agree. -/
theorem lands_iff (idx : IVec S1024x1 32) (i : Fin 1024) (d' : Fin 1024) (t : Fin 2048) (d : Fin 1024) :
    scatter_S2048x1024_S1024x1_S1024x1024_1_0_0_1.resultIdx? (ix2 i d') idx = some (ix2 t d)
      ↔ (idx (ix2 i 0)).toInt = (t.val : Int) ∧ d' = d := by
  have s0 : scatter_S2048x1024_S1024x1_S1024x1024_1_0_0_1.start (ix2 i d') idx 0 = (idx (ix2 i 0)).toInt := by
    unfold ScatterDims.start
    rw [dif_pos (by decide)]
    refine congrArg (fun j => (idx j).toInt) (funext fun a => ?_)
    match a with
    | ⟨0, _⟩ => rfl
    | ⟨1, _⟩ => rfl
  have s1 : scatter_S2048x1024_S1024x1_S1024x1024_1_0_0_1.start (ix2 i d') idx 1 = 0 := by
    unfold ScatterDims.start
    rw [dif_neg (by decide)]
  have w0 : scatter_S2048x1024_S1024x1_S1024x1024_1_0_0_1.window (ix2 i d') 0 = 0 := by
    unfold ScatterDims.window
    rw [dif_neg (by decide)]
  have w1 : scatter_S2048x1024_S1024x1_S1024x1024_1_0_0_1.window (ix2 i d') 1 = d'.val := by
    unfold ScatterDims.window
    rw [dif_pos (by decide)]
    rfl
  refine (Routing.resultIdx?_ix2 (R := 2048) (C := 1024) _ _ _ t d).trans ?_
  rw [s0, s1, w0, w1]
  constructor
  · rintro ⟨a, b⟩
    exact ⟨by simpa using a, Fin.ext (by omega)⟩
  · rintro ⟨a, rfl⟩
    exact ⟨by simpa using a, by simp⟩

end Cert.ReferenceIdeal.Moe
-- ==== Proof.ReferenceIdeal.StepAt.lean ====
/-
  One step of the reference over the extended reals, at an element: the accumulated element, plus the expert's row for the token
  times the token's weight when the token chose the expert and fewer than 1024 earlier tokens did.
-/
module

public import proofs.«01_k».proof.Proof.ReferenceIdeal.Lands

@[expose] public section

set_option maxRecDepth 16384

noncomputable section

namespace Cert.ReferenceIdeal.Moe

open Cert.ReferenceIdeal Cert.ReferenceIdeal.Gen Idealize.ShloMosaic Cert.Moe

/-- A number times its logistic is the number divided by what the logistic's reciprocal is. -/
theorem silu_mul (g : EReal) : g * Ideal.div 1 (1 + Ideal.exp (-g)) = Ideal.div g (1 + Ideal.exp (-g)) := by
  have h : (0 : EReal) < 1 + Ideal.exp (-g) := by
    have : (0 : EReal) ≤ Ideal.exp (-g) := by
      generalize -g = y
      induction y using EReal.rec with
      | bot => simp
      | top => simp
      | coe r => simp only [Ideal.exp_coe]; exact_mod_cast (Real.exp_pos r).le
    exact lt_of_lt_of_le zero_lt_one (by simpa using add_le_add_right this 1)
  unfold Ideal.div
  rw [if_neg h.ne', if_neg h.ne', one_mul]

/-- A gathered row put through an expert. -/
theorem unit_at (xe : FVec Ideal S1024x1024 .f32) (wg wu : FVec Ideal S1024x704 .f32) (wd : FVec Ideal S704x1024 .f32)
    (i d : Fin 1024) :
    unit (F := Ideal) xe wg wu wd (ix2 i d)
      = expertRow (fun m => xe (ix2 i m)) (fun m h => wg (ix2 m h)) (fun m h => wu (ix2 m h)) (fun h c => wd (ix2 h c)) d := by
  unfold unit expertRow
  pointwise [dot_S1024x704_S704x1024_S1024x1024_1_0_0_1_n_n, dot_S1024x1024_S1024x704_S1024x704_1_0_0_1_n_n]
  refine Finset.sum_congr rfl fun h _ => ?_
  rw [silu_mul]
  rfl

/-- A gathered row's factor: the weight of the expert at its token, times membership. -/
theorem factors_at (w : FVec Ideal S2048x2 .f32) (hit : IVec S2048x2 1) (mem : IVec S2048 1) (rows : IVec S1024x1 32)
    (i : Fin 1024) (t : Fin 2048) (h : rows (ix2 i 0) = BitVec.ofNat 32 t.val) :
    factors (F := Ideal) w hit mem rows (ix1 i)
      = (∑ k : Fin 2, w (ix2 t k) * (if hit (ix2 t k) = 1#1 then 1 else 0)) * (if mem (ix1 t) = 1#1 then 1 else 0) := by
  have taken : ∀ {α : Type} (v : S2048.Idx → α), Host.gather gather_S2048_S1024x1_S1024_n_0_n_n_0_1_1 v rows (ix1 i) = v (ix1 t) :=
    fun v => Routing.gather_take1 (N := 2048) (n := 1024) gather_S2048_S1024x1_S1024_n_0_n_n_0_1_1 rfl rfl rfl rfl v rows i t h
      (by decide)
  have bit : ∀ b : BitVec 1, FloatOps.uitofp (F := Ideal) .f32 b = (if b = 1#1 then 1 else 0 : EReal) := fun b => by
    rcases (show b = 0#1 ∨ b = 1#1 by revert b; decide) with rfl | rfl
    · rw [if_neg (by decide)]
      show (((0#1 : BitVec 1).toNat : ℝ) : EReal) = 0
      simp
    · rw [if_pos rfl]
      show (((1#1 : BitVec 1).toNat : ℝ) : EReal) = 1
      simp
  unfold factors
  pointwise
  rw [taken, taken mem]
  pointwise
  simp only [bit]

/-- Whether token `t` chose expert `e`, read off the table of choices. -/
def has (ix : IVec S2048x2 32) (e : BitVec 32) (t : Fin 2048) : Prop := ix (ix2 t 0) = e ∨ ix (ix2 t 1) = e

instance (ix : IVec S2048x2 32) (e : BitVec 32) (t : Fin 2048) : Decidable (has ix e t) := inferInstanceAs (Decidable (_ ∨ _))

/-- Row `i` of the 1024 belongs to the `i`-th token of the queue. -/
theorem row_number (ix : IVec S2048x2 32) (e : BitVec 32) (i : Fin 1024) :
    rowsOf (front (chose (hits ix e))) (ix2 i 0) = BitVec.ofNat 32 (queue (has ix e) ⟨i.val, by omega⟩).val := by
  rw [rows_eq]
  refine congrArg (fun f => BitVec.ofNat 32 (sortedFrom f (⟨i.val, by omega⟩ : Fin 2048)).val) ?_
  funext a b
  refine decide_eq_decide.mpr ?_
  unfold has
  simp only [chose_one_iff, hits_one_iff]

/-- A sum of rows into the rows they came from, where they came from different rows: an element receives the one row that came from
    its row, if one did. -/
theorem added_at (rows : IVec S1024x1 32) (upd : FVec Ideal S1024x1024 .f32) (acc : FVec Ideal S2048x1024 .f32)
    (q : Fin 1024 → Fin 2048) (hq : Function.Injective q) (hr : ∀ i, rows (ix2 i 0) = BitVec.ofNat 32 (q i).val)
    (t : Fin 2048) (d : Fin 1024) (v : EReal) (hv : ∀ i, q i = t → upd (ix2 i d) = v) :
    Host.scatterAdd (F := Ideal) scatter_S2048x1024_S1024x1_S1024x1024_1_0_0_1 acc rows upd (ix2 t d)
      = acc (ix2 t d) + (if ∃ i, q i = t then v else 0) := by
  have landed : ∀ (i d' : Fin 1024),
      scatter_S2048x1024_S1024x1_S1024x1024_1_0_0_1.resultIdx? (ix2 i d') rows = some (ix2 t d) ↔ q i = t ∧ d' = d := fun i d' => by
    have := (q i).isLt
    rw [lands_iff, hr, StableHlo.Predicate.toInt_ofNat_small _ (by omega)]
    exact and_congr_left fun _ => ⟨fun h => Fin.ext (by omega), fun h => by rw [h]⟩
  have e : (∑ j ∈ Finset.univ.filter (fun j : S1024x1024.Idx =>
        scatter_S2048x1024_S1024x1_S1024x1024_1_0_0_1.resultIdx? j rows = some (ix2 t d)), upd j)
      = if ∃ i, q i = t then v else 0 := by
    by_cases h : ∃ i, q i = t
    · obtain ⟨i, hi⟩ := h
      rw [if_pos ⟨i, hi⟩, Finset.sum_eq_single (ix2 i d), hv i hi]
      · intro j hj hne
        exfalso
        rw [eq_ix2 j] at hj hne
        obtain ⟨h1, h2⟩ := (landed _ _).mp (Finset.mem_filter.mp hj).2
        exact hne (by rw [hq (h1.trans hi.symm), h2])
      · intro hn
        exact (hn (Finset.mem_filter.mpr ⟨Finset.mem_univ _, (landed i d).mpr ⟨hi, rfl⟩⟩)).elim
    · rw [if_neg h]
      refine Finset.sum_eq_zero fun j hj => ?_
      exfalso
      rw [eq_ix2 j] at hj
      exact h ⟨_, ((landed _ _).mp (Finset.mem_filter.mp hj).2).1⟩
  exact congrArg (acc (ix2 t d) + ·) e

/-- The `i`-th row taken, which is token `t`'s. -/
theorem taken_at (x : FVec Ideal S2048x1024 .f32) (rows : IVec S1024x1 32) (i m : Fin 1024) (t : Fin 2048)
    (h : rows (ix2 i 0) = BitVec.ofNat 32 t.val) :
    Host.gather gather_S2048x1024_S1024x1_S1024x1024_1_0_n_n_0_1_11024 x rows (ix2 i m) = x (ix2 t m) :=
  Routing.gather_row (nb := 2048) (B := 1024) (n := 1024) gather_S2048x1024_S1024x1_S1024x1024_1_0_n_n_0_1_11024
    rfl rfl rfl rfl rfl x rows i m t h (by decide)

/-- The `i`-th weighted row, which came from token `t`. -/
theorem weighted_at (x : FVec Ideal S2048x1024 .f32) (w : FVec Ideal S2048x2 .f32) (hit : IVec S2048x2 1) (mem : IVec S2048 1)
    (rows : IVec S1024x1 32) (wg wu : FVec Ideal S1024x704 .f32) (wd : FVec Ideal S704x1024 .f32)
    (i d : Fin 1024) (t : Fin 2048) (h : rows (ix2 i 0) = BitVec.ofNat 32 t.val) :
    mulf (F := Ideal) (unit (F := Ideal) (Host.gather gather_S2048x1024_S1024x1_S1024x1024_1_0_n_n_0_1_11024 x rows) wg wu wd)
        (broadcastInDim S1024x1024 ![0, 1] bcast_S1024x1_S1024x1024_0_1 (broadcastInDim S1024x1 ![0] bcast_S1024_S1024x1_0
          (factors (F := Ideal) w hit mem rows))) (ix2 i d)
      = expertRow (fun m => x (ix2 t m)) (fun m h => wg (ix2 m h)) (fun m h => wu (ix2 m h)) (fun h c => wd (ix2 h c)) d
          * ((∑ k : Fin 2, w (ix2 t k) * (if hit (ix2 t k) = 1#1 then 1 else 0)) * (if mem (ix1 t) = 1#1 then 1 else 0)) := by
  have e : broadcastInDim S1024x1024 ![0, 1] bcast_S1024x1_S1024x1024_0_1 (broadcastInDim S1024x1 ![0] bcast_S1024_S1024x1_0
      (factors (F := Ideal) w hit mem rows)) (ix2 i d) = factors (F := Ideal) w hit mem rows (ix1 i) := by
    generalize factors (F := Ideal) w hit mem rows = v
    pointwise
  refine congrArg₂ (· * ·) ?_ (e.trans (factors_at w hit mem rows i t h))
  rw [unit_at]
  simp only [taken_at x rows i _ t h]

/-- A token of the front part stands among the first 1024 of the queue when fewer than 1024 such tokens precede it. -/
theorem queue_reaches (M : Fin 2048 → Prop) [DecidablePred M] (t : Fin 2048) (ht : M t) :
    (∃ i : Fin 1024, queue M ⟨i.val, by omega⟩ = t) ↔ (Finset.univ.filter fun a : Fin 2048 => a < t ∧ M a).card < 1024 := by
  rw [← placed_before_iff _ M (fun _ _ => rfl) _ t ht]
  constructor
  · rintro ⟨i, hi⟩; exact ⟨_, i.isLt, hi⟩
  · rintro ⟨i, hi, hi'⟩; exact ⟨⟨i.val, hi⟩, hi'⟩

/-- One expert of the reference adds, to each token it serves, the row times the weight. -/
theorem step_at (x : FVec Ideal S2048x1024 .f32) (ix : IVec S2048x2 32) (w : FVec Ideal S2048x2 .f32) (e : BitVec 32)
    (wg wu : FVec Ideal S1024x704 .f32) (wd : FVec Ideal S704x1024 .f32) (acc : FVec Ideal S2048x1024 .f32)
    (t : Fin 2048) (d : Fin 1024) :
    step (F := Ideal) x ix w e wg wu wd acc (ix2 t d)
      = acc (ix2 t d) +
        (if has ix e t ∧ (Finset.univ.filter fun a : Fin 2048 => a < t ∧ has ix e a).card < 1024 then
          expertRow (fun m => x (ix2 t m)) (fun m h => wg (ix2 m h)) (fun m h => wu (ix2 m h)) (fun h c => wd (ix2 h c)) d
            * ∑ k : Fin 2, w (ix2 t k) * (if ix (ix2 t k) = e then 1 else 0)
          else 0) := by
  have hr := row_number ix e
  have hq : Function.Injective fun i : Fin 1024 => queue (has ix e) (⟨i.val, by omega⟩ : Fin 2048) := fun i j h => by
    have := congrArg Fin.val (sortedFrom_injective _ h)
    exact Fin.ext this
  unfold step
  refine (added_at _ _ acc _ hq hr t d _ fun i hi =>
    weighted_at x w _ _ _ wg wu wd i d t ((hr i).trans (by rw [hi]))).trans (congrArg (acc (ix2 t d) + ·) ?_)
  simp only [hits_one_iff, chose_one_iff]
  generalize expertRow _ _ _ _ d = y
  generalize (∑ k : Fin 2, _ : EReal) = z
  by_cases hm : has ix e t
  · rw [if_pos (show ix (ix2 t 0) = e ∨ ix (ix2 t 1) = e from hm), mul_one]
    exact if_congr ((queue_reaches (has ix e) t hm).trans (and_iff_right hm).symm) rfl rfl
  · rw [if_neg (show ¬ (ix (ix2 t 0) = e ∨ ix (ix2 t 1) = e) from hm), mul_zero, mul_zero, ite_self]
    exact (if_neg fun h => hm h.1).symm

end Cert.ReferenceIdeal.Moe
-- ==== Proof.ReferenceIdeal.Router.lean ====
/-
  The reference's router over the extended reals: the softmax of the logits, the two experts it picks for a token, and their weights.
-/
module

public import proofs.«01_k».proof.Proof.ReferenceIdeal.StepAt

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe Cert.Moe

/-- The picked experts' probabilities and numbers, for any table of probabilities. -/
theorem picked (p : FVec Ideal S2048x8 .f32) (t : Fin 2048) (k : Fin 2) :
    (Host.topK S2048x2 1 (FloatOps.cmpfTotal (F := Ideal) (φ := .f32) .gt) p sliceFits_S2048x8_S2048x2).1 (ix2 t k)
        = p (ix2 t (choice (fun e => p (ix2 t e)) (k.castLE (by decide))))
      ∧ (Host.topK S2048x2 1 (FloatOps.cmpfTotal (F := Ideal) (φ := .f32) .gt) p sliceFits_S2048x8_S2048x2).2 (ix2 t k)
        = BitVec.ofNat 32 (choice (fun e => p (ix2 t e)) (k.castLE (by decide))).val := by
  unfold Host.topK Host.sort2
  pointwise
  have e : ∀ (j : S2048x8.Idx) (k : Fin 8), j.along (1 : Fin 2) k = ix2 (j 0) k := fun j k => by
    funext a
    match a with
    | ⟨0, _⟩ => rfl
    | ⟨1, _⟩ => rfl
  have hlt : (fun k k' : Fin 8 =>
      FloatOps.cmpfTotal (F := Ideal) (φ := .f32) .gt (p (ix2 t k)) (p (ix2 t k')) == 1#1)
      = fun a b => decide (p (ix2 t b) < p (ix2 t a)) := by
    funext a b
    show (BitVec.ofBool (decide _) == 1#1) = _
    by_cases h : p (ix2 t b) < p (ix2 t a) <;> simp [h]
  simp only [e]
  unfold choice
  constructor
  · exact congrArg (fun f => p (ix2 t (sortedFrom f (⟨k.val, by omega⟩ : Fin 8)))) hlt
  · exact congrArg (fun f => BitVec.ofNat 32 (sortedFrom f (⟨k.val, by omega⟩ : Fin 8)).val) hlt

/-- The reference's softmax of any table of logits. -/
theorem softmax_at (l : FVec Ideal S2048x8 .f32) (t : Fin 2048) (e : Fin 8) :
    Host.divf (F := Ideal) (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_))))))
      (broadcastInDim S2048x8 ![0, 1] bcast_S2048x1_S2048x8_0_1 (broadcastInDim S2048x1 ![0] bcast_S2048_S2048x1_0 (Host.reduceAdd (Host.exp (subf l (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x8_S2048_d1 h_S_)))))) (constant S_ .f32 0x00000000#32) reducesTo_S2048x8_S2048_d1 h_S_)))
      (ix2 t e) = softmax (fun k => l (ix2 t k)) e := by
  unfold softmax top
  pointwise
  simp only [show Ideal.ofBits FTy.f32 4286578688#32 = ⊥ from minus_infinity, bot_sup_eq]

/-- The picked experts' shares of their probabilities' sum. -/
theorem shares_at (v : FVec Ideal S2048x2 .f32) (t : Fin 2048) (k : Fin 2) :
    Host.divf (F := Ideal) v (broadcastInDim S2048x2 ![0, 1] bcast_S2048x1_S2048x2_0_1 (broadcastInDim S2048x1 ![0] bcast_S2048_S2048x1_0 (Host.reduceAdd v (constant S_ .f32 0x00000000#32) reducesTo_S2048x2_S2048_d1 h_S_))) (ix2 t k)
      = Ideal.div (v (ix2 t k)) (v (ix2 t 0) + v (ix2 t 1)) := by
  pointwise
  rw [Fin.sum_univ_two]

variable (V : Valuation τ sig (Elt Ideal))

/-- The tokens' rows and the router's matrix, as the reference reads them. -/
def rows (t : Fin 2048) (m : Fin 1024) : EReal := (V (Proc.devRef .tc main_arg0) : FVec Ideal S2048x1x1024 .f32) (ix3 t 0 m)
/-- and the router's matrix. -/
def gate (m : Fin 1024) (e : Fin 8) : EReal := (V (Proc.devRef .tc main_arg1) : FVec Ideal S1024x8 .f32) (ix2 m e)

/-- The reshaped tokens are the tokens. -/
theorem rows_at (t : Fin 2048) (m : Fin 1024) : (res_main_v1 V : FVec Ideal S2048x1024 .f32) (ix2 t m) = rows V t m := by
  unfold res_main_v1 rows
  pointwise

/-- A logit is the product of a token with a column of the matrix. -/
theorem logits_at (t : Fin 2048) (e : Fin 8) :
    (res_main_v2 V : FVec Ideal S2048x8 .f32) (ix2 t e) = ∑ m : Fin 1024, rows V t m * gate V m e := by
  unfold res_main_v2
  simp only [← rows_at]
  generalize res_main_v1 V = x
  unfold gate
  pointwise [dot_S2048x1024_S1024x8_S2048x8_1_0_0_1_n_n]

/-- A probability is the softmax of the logits. -/
theorem probs_at (t : Fin 2048) (e : Fin 8) :
    (res_main_v13 V : FVec Ideal S2048x8 .f32) (ix2 t e) = probs (rows V) (gate V) t e := by
  unfold res_main_v13 res_main_v9 probs
  refine (softmax_at (res_main_v2 V) t e).trans ?_
  simp only [logits_at]

end Cert.ReferenceIdeal.Moe
-- ==== Proof.ReferenceIdeal.Value.lean ====
/-
  The reference's result over the extended reals, at an element.
-/
module

public import proofs.«01_k».proof.Proof.ReferenceIdeal.Router

@[expose] public section

set_option maxRecDepth 16384

noncomputable section

namespace Cert.ReferenceIdeal.Moe

open Cert.ReferenceIdeal Cert.ReferenceIdeal.Gen Cert.ReferenceIdeal.Value Idealize.ShloMosaic Idealize.ShloMosaic.TcCoe Cert.Moe

variable (V : Valuation τ sig (Elt Ideal))

/-- The reference's table of chosen experts and the table of their weights. -/
abbrev picks : IVec S2048x2 32 := res_main_indices V
/-- and of their weights. -/
abbrev shares : FVec Ideal S2048x2 .f32 := res_main_v17 V

/-- The numbers of two experts agree as words exactly when they are one expert. -/
theorem expert_word (a b : Fin 8) : BitVec.ofNat 32 a.val = BitVec.ofNat 32 b.val ↔ a = b := by
  revert a b; decide

/-- The table of probabilities. -/
abbrev table (t : Fin 2048) : Fin 8 → EReal := probs (rows V) (gate V) t

/-- A chosen expert is the one at that place of the order. -/
theorem indices_at (t : Fin 2048) (k : Fin 2) :
    (res_main_indices V : IVec S2048x2 32) (ix2 t k) = BitVec.ofNat 32 (choice (table V t) (k.castLE (by decide))).val := by
  refine (picked (res_main_v13 V) t k).2.trans ?_
  rw [show (fun e => (res_main_v13 V : FVec Ideal S2048x8 .f32) (ix2 t e)) = table V t from funext fun e => probs_at V t e]

/-- A chosen probability is that of the expert at that place. -/
theorem values_at (t : Fin 2048) (k : Fin 2) :
    (res_main_values V : FVec Ideal S2048x2 .f32) (ix2 t k) = table V t (choice (table V t) (k.castLE (by decide))) := by
  refine (picked (res_main_v13 V) t k).1.trans ?_
  rw [probs_at, show (fun e => (res_main_v13 V : FVec Ideal S2048x8 .f32) (ix2 t e)) = table V t from funext fun e => probs_at V t e]

/-- A token has an expert in its table of choices exactly when it chose it. -/
theorem has_iff (t : Fin 2048) (e : Fin 8) : has (res_main_indices V) (BitVec.ofNat 32 e.val) t ↔ member (table V t) e := by
  unfold has member
  rw [indices_at, indices_at, expert_word, expert_word]
  exact or_congr eq_comm eq_comm

/-- The expert's weight, summed over a token's two choices. -/
theorem weight_at (t : Fin 2048) (e : Fin 8) :
    ∑ k : Fin 2, shares V (ix2 t k) * (if picks V (ix2 t k) = BitVec.ofNat 32 e.val then 1 else 0) = weight (table V t) e := by
  have h : ∀ k : Fin 2, shares V (ix2 t k)
      = Ideal.div (table V t (choice (table V t) (k.castLE (by decide))))
          (table V t (first (table V t)) + table V t (second (table V t))) := fun k => by
    refine (shares_at (res_main_values V) t k).trans ?_
    simp only [values_at]
    rfl
  simp only [h, indices_at, expert_word, Fin.sum_univ_two]
  show Ideal.div (table V t (first (table V t))) _ * (if first (table V t) = e then 1 else 0)
    + Ideal.div (table V t (second (table V t))) _ * (if second (table V t) = e then 1 else 0) = _
  unfold weight
  have hne := first_ne_second (table V t)
  by_cases h1 : e = first (table V t)
  · rw [if_pos h1.symm, if_neg (fun q => hne (h1.symm.trans q.symm)), if_pos h1, mul_one, mul_zero, add_zero]
  · rw [if_neg (Ne.symm h1), if_neg h1, mul_zero, zero_add]
    by_cases h2 : e = second (table V t)
    · rw [if_pos h2.symm, if_pos h2, mul_one]
    · rw [if_neg (Ne.symm h2), if_neg h2, mul_zero]

/-- Expert `e`'s row for token `t`, as the reference's arguments give it. -/
def row (t : Fin 2048) (e : Fin 8) (d : Fin 1024) : EReal :=
  expertRow (rows V t) (fun m h => (V (Proc.devRef .tc main_arg2) : FVec Ideal S8x1024x704 .f32) (ix3 e m h))
    (fun m h => (V (Proc.devRef .tc main_arg3) : FVec Ideal S8x1024x704 .f32) (ix3 e m h))
    (fun h c => (V (Proc.devRef .tc main_arg4) : FVec Ideal S8x704x1024 .f32) (ix3 e h c)) d

/-- An expert's slice of a stack of projections, -/
theorem in_matrix_at (a : FVec Ideal S8x1024x704 .f32) (e : Fin 8) (h : S8x1024x704.Slices ![e.val, 0, 0] S1x1024x704)
    (m : Fin 1024) (n : Fin 704) :
    shapeCast S1024x704 (extractStridedSlice S1x1024x704 ![e.val, 0, 0] a h) shapeCasts_S1x1024x704_S1024x704 (ix2 m n)
      = a (ix3 e m n) := by
  pointwise

/-- and of the projections back. -/
theorem out_matrix_at (a : FVec Ideal S8x704x1024 .f32) (e : Fin 8) (h : S8x704x1024.Slices ![e.val, 0, 0] S1x704x1024)
    (m : Fin 704) (n : Fin 1024) :
    shapeCast S704x1024 (extractStridedSlice S1x704x1024 ![e.val, 0, 0] a h) shapeCasts_S1x704x1024_S704x1024 (ix2 m n)
      = a (ix3 e m n) := by
  pointwise

/-- One expert over the arguments: its row times the share is added. -/
theorem cut_at (e : Fin 8) (h : S8x1024x704.Slices ![e.val, 0, 0] S1x1024x704) (h' : S8x704x1024.Slices ![e.val, 0, 0] S1x704x1024)
    (acc : FVec Ideal S2048x1024 .f32) (t : Fin 2048) (d : Fin 1024) :
    cut V (BitVec.ofNat 32 e.val) ![e.val, 0, 0] h h' acc (ix2 t d)
      = acc (ix2 t d) + row V t e d * share (table V) t e := by
  have hw := weight_at V t e
  have hs : (has (picks V) (BitVec.ofNat 32 e.val) t
      ∧ (Finset.univ.filter fun a : Fin 2048 => a < t ∧ has (picks V) (BitVec.ofNat 32 e.val) a).card < 1024)
        ↔ served (table V) t e := by
    simp only [has_iff]
    rfl
  refine (step_at _ _ _ _ _ _ _ acc t d).trans (congrArg (acc (ix2 t d) + ·) ?_)
  simp only [rows_at, in_matrix_at, out_matrix_at]
  unfold share
  by_cases q : served (table V) t e
  · rw [if_pos q]
    refine (if_pos (hs.mpr q)).trans ?_
    exact congrArg (row V t e d * ·) hw
  · rw [if_neg q, mul_zero]
    exact if_neg (mt hs.mp q)

/-- The expert after the first `e` of them adds its term. -/
theorem cut_next (e : Fin 8) (h : S8x1024x704.Slices ![e.val, 0, 0] S1x1024x704) (h' : S8x704x1024.Slices ![e.val, 0, 0] S1x704x1024)
    (acc : FVec Ideal S2048x1024 .f32) (t : Fin 2048) (d : Fin 1024) (ha : acc (ix2 t d) = output (table V) (row V t) t d e.val) :
    cut V (BitVec.ofNat 32 e.val) ![e.val, 0, 0] h h' acc (ix2 t d) = output (table V) (row V t) t d (e.val + 1) := by
  rw [cut_at, ha]
  show _ = _ + _
  rw [dif_pos e.isLt]

/-- The reference's accumulated rows after all eight experts. -/
theorem sum_at (t : Fin 2048) (d : Fin 1024) :
    (res_main_v450 V : FVec Ideal S2048x1024 .f32) (ix2 t d) = output (table V) (row V t) t d 8 := by
  have h0 : (broadcastInDim S2048x1024 ![] bcast_S_S2048x1024 (constant (F := Ideal) S_ .f32 0x00000000#32)) (ix2 t d)
      = output (table V) (row V t) t d 0 := by
    unfold output
    pointwise
  have h2 : (res_main_v126 V : FVec Ideal S2048x1024 .f32) (ix2 t d) = output (table V) (row V t) t d 2 := by
    rw [v126_eq]
    exact cut_next V 1 _ _ _ t d (cut_next V 0 _ _ _ t d h0)
  have h4 : (res_main_v234 V : FVec Ideal S2048x1024 .f32) (ix2 t d) = output (table V) (row V t) t d 4 := by
    rw [v234_eq]
    exact cut_next V 3 _ _ _ t d (cut_next V 2 _ _ _ t d h2)
  have h6 : (res_main_v342 V : FVec Ideal S2048x1024 .f32) (ix2 t d) = output (table V) (row V t) t d 6 := by
    rw [v342_eq]
    exact cut_next V 5 _ _ _ t d (cut_next V 4 _ _ _ t d h4)
  rw [v450_eq]
  exact cut_next V 7 _ _ _ t d (cut_next V 6 _ _ _ t d h6)

/-- The reference's result, the accumulated rows in the layout of the tokens. -/
theorem result_at (t : Fin 2048) (d : Fin 1024) :
    transpose S2048x1x1024 [1, 0, 2] (shapeCast S1x2048x1024 (res_main_v450 V : FVec Ideal S2048x1024 .f32) shapeCasts_S2048x1024_S1x2048x1024)
      transposes_S1x2048x1024_S2048x1x1024_1_0_2 (ix3 t 0 d) = output (table V) (row V t) t d 8 := by
  rw [← sum_at]
  generalize res_main_v450 V = y
  pointwise

end Cert.ReferenceIdeal.Moe
-- ==== Proof.Value.Agree.lean ====
/-
  The kernel and the reference, launched on the same arguments, end with the same result over the extended reals.
-/
module

public import proofs.«01_k».proof.Proof.KernelIdeal.Result
public import proofs.«01_k».proof.Proof.ReferenceIdeal.Value

@[expose] public section

set_option maxRecDepth 16384

noncomputable section

namespace Cert.Moe

open Idealize.ShloMosaic Idealize.ShloMosaic.TcCoe Idealize.SL.Sem

/-- One output element of the layer, over its five arrays. -/
def layer (x : FVec Ideal Cert.KernelIdeal.S2048x1x1024 .f32) (g : FVec Ideal Cert.KernelIdeal.S1024x8 .f32)
    (wg wu : FVec Ideal Cert.KernelIdeal.S8x1024x704 .f32) (wd : FVec Ideal Cert.KernelIdeal.S8x704x1024 .f32)
    (t : Fin 2048) (d : Fin 1024) : EReal :=
  output (probs (fun t m => x (ix3 t 0 m)) fun m e => g (ix2 m e))
    (fun e d => expertRow (fun m => x (ix3 t 0 m)) (fun m h => wg (ix3 e m h)) (fun m h => wu (ix3 e m h)) (fun h c => wd (ix3 e h c)) d) t d 8

/-- Two results that agree at every token and column are one result. -/
theorem result_ext (u v : FVec Ideal Cert.KernelIdeal.S2048x1x1024 .f32) (h : ∀ (t : Fin 2048) (d : Fin 1024), u (ix3 t 0 d) = v (ix3 t 0 d)) :
    u = v := by
  funext i
  have hi : i = ix3 (i 0) (0 : Fin 1) (i 2) := by
    funext k
    fin_cases k
    · rfl
    · exact Subsingleton.elim (α := Fin 1) _ _
    · rfl
  rw [hi]
  exact h (i 0) (i 2)

section Kernel

open Cert.KernelIdeal Cert.KernelIdeal.Gen Cert.KernelIdeal.Moe

/-- The kernel computes the layer, where the tokens and the router's matrix are finite. -/
theorem kernel_layer (m : (ℓ : Loc nD τ sig) → Buf (Elt Ideal) ℓ) (c : Dev nD)
    (hx : ∀ t k, ∃ r : ℝ, tokens m c (ix3 t 0 k) = r) (hg : ∀ k e, ∃ r : ℝ, router m c (ix2 k e) = r) (t : Fin 2048) (d : Fin 1024) :
    (show FVec Ideal S2048x1x1024 .f32 from (expertDat (fun c b => afterRouter m c b) c).arrAt 5 cfg1.N) (ix3 t 0 d)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) t d :=
  Cert.KernelIdeal.Moe.result_at m c hx hg t d

end Kernel

section Reference

open Cert.ReferenceIdeal Cert.ReferenceIdeal.Gen Cert.ReferenceIdeal.Moe

/-- The reference computes the layer. -/
theorem reference_layer (m : (ℓ : Loc nD τ sig) → Buf (Elt Ideal) ℓ) (c : Dev nD) (t : Fin 2048) (d : Fin 1024) :
    transpose S2048x1x1024 [1, 0, 2]
        (shapeCast S1x2048x1024 (Cert.ReferenceIdeal.Value.res_main_v450 (StableHlo.launchContents m c) : FVec Ideal S2048x1024 .f32) shapeCasts_S2048x1024_S1x2048x1024)
        transposes_S1x2048x1024_S2048x1x1024_1_0_2 (ix3 t 0 d)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) t d :=
  Cert.ReferenceIdeal.Moe.result_at (StableHlo.launchContents m c) t d

end Reference

end Cert.Moe
-- ==== Proof.lean ====
/- The claims: every program's frame, that the ideal program is the given one's text, and that kernel and reference agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelIdeal.Run
public import proofs.«01_k».proof.Proof.Kernel.Frame
public import proofs.«01_k».proof.Proof.ReferenceIdeal.Frame
public import proofs.«01_k».proof.Proof.Value.Precondition
public import proofs.«01_k».proof.Proof.Value.Agree
public import Idealize.ShloMosaic.Adequacy
public import Idealize.ShloMosaic.Init

@[expose] public section

noncomputable section

namespace Cert.Proof

open Idealize.ShloMosaic Idealize.SL.Sem Cert.Kernel Cert.Moe

/-- From equal arguments, finite where the router reads them, the kernel and the reference end with the same result. -/
theorem agree : Cert.algebraic_KernelIdeal_ReferenceIdeal_pre_router_finite (hKernelIdeal := Cert.KernelIdeal.Gen.facts)
    (hReferenceIdeal := Cert.ReferenceIdeal.Gen.facts) (hPre_router_finite := finite_facts) := fun m g m' g' pre same =>
  ⟨_, (θ_run Cert.KernelIdeal.defs _ _).mono (fun _ h => h.1) (Cert.KernelIdeal.Moe.ends m g),
    (θ_run Cert.ReferenceIdeal.defs _ _).mono (fun _ h c => ⟨(h c).1.trans (result_ext _ _ fun t d => by
        obtain ⟨e0, e1, e2, e3, e4⟩ := same c
        have k := kernel_layer m c (@tokens_real finite_facts _ _ _ _ _ (pre c).1) (@gate_real finite_facts _ _ _ _ _ (pre c).2) t d
        rw [← e0, ← e1, ← e2, ← e3, ← e4] at k
        exact (reference_layer m' c t d).trans k.symm), (h c).2⟩) (Cert.ReferenceIdeal.Value.run m' g')⟩

/-- All claims. -/
theorem claim : Cert.Claim := ⟨Cert.Kernel.Gen.facts, Cert.KernelIdeal.Gen.facts, Cert.ReferenceIdeal.Gen.facts, finite_facts,
  fun m ρ _ => Cert.Kernel.Moe.frame m ρ,
  fun m ρ _ => Cert.KernelIdeal.Moe.frame m ρ,
  fun m ρ _ => Cert.KernelIdeal.Moe.frame m ρ,
  fun m ρ _ => Cert.ReferenceIdeal.Moe.frame m ρ,
  fun m ρ _ => Cert.ReferenceIdeal.Moe.frame m ρ,
  trivial, agree⟩

end Cert.Proof

end
